-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_finite [hPre_gate_finite : Cert.Pre_gate_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_finite [hPre_gate_finite : Cert.Pre_gate_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gate_finite [hKernelIdeal : Cert.KernelIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gate_finite [hReferenceIdeal : Cert.ReferenceIdeal.Facts] [hPre_gate_finite : Cert.Pre_gate_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_gate_finite [hKernelIdeal : Cert.KernelIdeal.Facts] [hReferenceIdeal : Cert.ReferenceIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def algebraic_KernelIdeal_ReferenceIdeal_on_balance_loss [hKernelIdeal : Cert.KernelIdeal.Facts] [hReferenceIdeal : Cert.ReferenceIdeal.Facts] [hOn_balance_loss : Cert.On_balance_loss.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 2048]⟩ : Shape).Idx, (Cert.On_balance_loss.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v2) i = v0 c i)
          ∧ (∀ i : (⟨0, ![]⟩ : Shape).Idx, (Cert.On_balance_loss.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.KernelIdeal.nD Cert.KernelIdeal.τ).loc Cert.KernelIdeal.main_v3) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 2048]⟩ : Shape).Idx, (Cert.On_balance_loss.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v58) i = v0 c i)
          ∧ (∀ i : (⟨0, ![]⟩ : Shape).Idx, (Cert.On_balance_loss.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.ReferenceIdeal.nD Cert.ReferenceIdeal.τ).loc Cert.ReferenceIdeal.main_v51) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_gate_finite : Cert.Pre_gate_finite.Facts) (hOn_balance_loss : Cert.On_balance_loss.Facts),
    quiescent_Kernel (hKernel := hKernel)
    ∧ quiescent_KernelIdeal (hKernelIdeal := hKernelIdeal)
    ∧ quiescent_KernelIdeal_pre_gate_finite (hKernelIdeal := hKernelIdeal) (hPre_gate_finite := hPre_gate_finite)
    ∧ quiescent_ReferenceIdeal (hReferenceIdeal := hReferenceIdeal)
    ∧ quiescent_ReferenceIdeal_pre_gate_finite (hReferenceIdeal := hReferenceIdeal) (hPre_gate_finite := hPre_gate_finite)
    ∧ preserves_Kernel_KernelIdeal
    ∧ algebraic_KernelIdeal_ReferenceIdeal_pre_gate_finite (hKernelIdeal := hKernelIdeal) (hReferenceIdeal := hReferenceIdeal) (hPre_gate_finite := hPre_gate_finite)
    ∧ algebraic_KernelIdeal_ReferenceIdeal_on_balance_loss (hKernelIdeal := hKernelIdeal) (hReferenceIdeal := hReferenceIdeal) (hOn_balance_loss := hOn_balance_loss)
-- ==== On_balance_loss.lean ====
abbrev S4096x2048 : Shape := ⟨2, ![4096, 2048]⟩
abbrev S2048x8 : Shape := ⟨2, ![2048, 8]⟩
abbrev S8 : Shape := ⟨1, ![8]⟩
abbrev S8x2048x2048 : Shape := ⟨3, ![8, 2048, 2048]⟩
abbrev S8x2048 : Shape := ⟨2, ![8, 2048]⟩
abbrev S_ : Shape := ⟨0, ![]⟩

class Facts : Prop where
  bcast_S_S4096x2048 : S_.BroadcastsInDim S4096x2048 (![] : Fin 0 → Fin S4096x2048.rank)

variable [Facts]

def fn {F : FTy → Type} [FloatOps F] (main_arg0 : FVec F S4096x2048 .f32) (main_arg1 : FVec F S2048x8 .f32) (main_arg2 : FVec F S8 .f32) (main_arg3 : FVec F S8x2048x2048 .f32) (main_arg4 : FVec F S8x2048 .f32) : IVec S4096x2048 1 × IVec S_ 1 :=
  let main_c : IVec S_ 1 := constantI S_ 1 0#1
  let main_v0 : IVec S4096x2048 1 := broadcastInDim S4096x2048 ![] bcast_S_S4096x2048 main_c
  let main_c_0 : IVec S_ 1 := constantI S_ 1 1#1
  (main_v0, main_c_0)
-- ==== Pre_gate_finite.lean ====
abbrev S4096x2048 : Shape := ⟨2, ![4096, 2048]⟩
abbrev S2048x8 : Shape := ⟨2, ![2048, 8]⟩
abbrev S8 : Shape := ⟨1, ![8]⟩
abbrev S8x2048x2048 : Shape := ⟨3, ![8, 2048, 2048]⟩
abbrev S8x2048 : Shape := ⟨2, ![8, 2048]⟩
abbrev S_ : Shape := ⟨0, ![]⟩

class Facts : Prop where
  bcast_S_S4096x2048 : S_.BroadcastsInDim S4096x2048 (![] : Fin 0 → Fin S4096x2048.rank)
  bcast_S_S2048x8 : S_.BroadcastsInDim S2048x8 (![] : Fin 0 → Fin S2048x8.rank)
  bcast_S_S8 : S_.BroadcastsInDim S8 (![] : Fin 0 → Fin S8.rank)

variable [Facts]

def fn {F : FTy → Type} [FloatOps F] (main_arg0 : FVec F S4096x2048 .f32) (main_arg1 : FVec F S2048x8 .f32) (main_arg2 : FVec F S8 .f32) (main_arg3 : FVec F S8x2048x2048 .f32) (main_arg4 : FVec F S8x2048 .f32) : IVec S4096x2048 1 × IVec S2048x8 1 × IVec S8 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S2048x8 .f32 := Host.absf main_arg1
  let main_cst_0 : FVec F S_ .f32 := constant S_ .f32 0x7F800000#32
  let main_v4 : FVec F S2048x8 .f32 := broadcastInDim S2048x8 ![] bcast_S_S2048x8 main_cst_0
  let main_v5 : IVec S2048x8 1 := cmpf .olt main_v3 main_v4
  let main_v6 : FVec F S8 .f32 := Host.absf main_arg2
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Kernel.lean ====
abbrev S4096x2048 : Shape := ⟨2, ![4096, 2048]⟩
abbrev S2048x8 : Shape := ⟨2, ![2048, 8]⟩
abbrev S8 : Shape := ⟨1, ![8]⟩
abbrev S8x2048x2048 : Shape := ⟨3, ![8, 2048, 2048]⟩
abbrev S8x2048 : Shape := ⟨2, ![8, 2048]⟩
abbrev S1x8 : Shape := ⟨2, ![1, 8]⟩
abbrev S4096x8 : Shape := ⟨2, ![4096, 8]⟩
abbrev S1x1 : Shape := ⟨2, ![1, 1]⟩
abbrev S1024x2048 : Shape := ⟨2, ![1024, 2048]⟩
abbrev S1024x8 : Shape := ⟨2, ![1024, 8]⟩
abbrev S1024 : Shape := ⟨1, ![1024]⟩
abbrev S1024x1 : Shape := ⟨2, ![1024, 1]⟩
abbrev S1x1x8 : Shape := ⟨3, ![1, 1, 8]⟩
abbrev S1 : Shape := ⟨1, ![1]⟩
abbrev S1x1x1 : Shape := ⟨3, ![1, 1, 1]⟩
abbrev S1x2048x512 : Shape := ⟨3, ![1, 2048, 512]⟩
abbrev S8x512 : Shape := ⟨2, ![8, 512]⟩
abbrev S4096x512 : Shape := ⟨2, ![4096, 512]⟩
abbrev S4096 : Shape := ⟨1, ![4096]⟩
abbrev S4096x1 : Shape := ⟨2, ![4096, 1]⟩
abbrev S2048x512 : Shape := ⟨2, ![2048, 512]⟩
abbrev S_ : Shape := ⟨0, ![]⟩

abbrev nBuf : Space → Nat
  | .hbm => 11
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S2048x8, .f32⟩
  | .hbm, ⟨2, _⟩ => ⟨S8, .f32⟩
  | .hbm, ⟨3, _⟩ => ⟨S8x2048x2048, .f32⟩
  | .hbm, ⟨4, _⟩ => ⟨S8x2048, .f32⟩
  | .hbm, ⟨5, _⟩ => ⟨S1x8, .f32⟩
  | .hbm, ⟨6, _⟩ => ⟨S4096x2048, .bf16⟩
  | .hbm, ⟨7, _⟩ => ⟨S4096x8, .f32⟩
  | .hbm, ⟨8, _⟩ => ⟨S1x1, .f32⟩
  | .hbm, ⟨9, _⟩ => ⟨S4096x2048, .f32⟩
  | .hbm, ⟨10, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S2048x8, .f32⟩
  | .local _ .vmem, ⟨3, _⟩ => ⟨S1x8, .f32⟩
  | .local _ .vmem, ⟨4, _⟩ => ⟨S1024x2048, .bf16⟩
  | .local _ .vmem, ⟨5, _⟩ => ⟨S1024x2048, .bf16⟩
  | .local _ .vmem, ⟨6, _⟩ => ⟨S1024x8, .f32⟩
  | .local _ .vmem, ⟨7, _⟩ => ⟨S1024x8, .f32⟩
  | .local _ .vmem, ⟨8, _⟩ => ⟨S1x1, .f32⟩
  | .local _ .vmem, ⟨9, _⟩ => ⟨S1x8, .f32⟩
  | .local _ .vmem, ⟨10, _⟩ => ⟨S4096x2048, .bf16⟩
  | .local _ .vmem, ⟨11, _⟩ => ⟨S4096x8, .f32⟩
  | .local _ .vmem, ⟨12, _⟩ => ⟨S1x2048x512, .f32⟩
  | .local _ .vmem, ⟨13, _⟩ => ⟨S1x2048x512, .f32⟩
  | .local _ .vmem, ⟨14, _⟩ => ⟨S8x512, .f32⟩
  | .local _ .vmem, ⟨15, _⟩ => ⟨S8x512, .f32⟩
  | .local _ .vmem, ⟨16, _⟩ => ⟨S4096x512, .f32⟩
  | .local _ .vmem, ⟨17, _⟩ => ⟨S4096x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc1_sem0_0 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v31 : BitVec 1 := Scalar.cmpi .eq arg0 c3_i32
  let v32 : BitVec 32 := Scalar.extui v31
  let c0_i32_18 : BitVec 32 := 0#32
  let v33 : BitVec 1 := Scalar.cmpi .ne v32 c0_i32_18
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S4096x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S4096x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S4096x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]
-- ==== ReferenceIdeal.lean ====
abbrev S4096x2048 : Shape := ⟨2, ![4096, 2048]⟩
abbrev S2048x8 : Shape := ⟨2, ![2048, 8]⟩
abbrev S8 : Shape := ⟨1, ![8]⟩
abbrev S8x2048x2048 : Shape := ⟨3, ![8, 2048, 2048]⟩
abbrev S8x2048 : Shape := ⟨2, ![8, 2048]⟩
abbrev S4096x8 : Shape := ⟨2, ![4096, 8]⟩
abbrev S1x8 : Shape := ⟨2, ![1, 8]⟩
abbrev S_ : Shape := ⟨0, ![]⟩
abbrev S4096 : Shape := ⟨1, ![4096]⟩
abbrev S4096x1 : Shape := ⟨2, ![4096, 1]⟩
abbrev S1 : Shape := ⟨1, ![1]⟩
abbrev S8x2048x4096 : Shape := ⟨3, ![8, 2048, 4096]⟩
abbrev S4096x2048x8 : Shape := ⟨3, ![4096, 2048, 8]⟩
abbrev S1x2048x8 : Shape := ⟨3, ![1, 2048, 8]⟩

abbrev nBuf : Space → Nat
  | .hbm => 127
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8, .f32⟩
  | .hbm, ⟨2, _⟩ => ⟨S8, .f32⟩
  | .hbm, ⟨3, _⟩ => ⟨S8x2048x2048, .f32⟩
  | .hbm, ⟨4, _⟩ => ⟨S8x2048, .f32⟩
  | .hbm, ⟨5, _⟩ => ⟨S4096x8, .f32⟩
  | .hbm, ⟨6, _⟩ => ⟨S1x8, .f32⟩
  | .hbm, ⟨7, _⟩ => ⟨S4096x8, .f32⟩
  | .hbm, ⟨8, _⟩ => ⟨S4096x8, .f32⟩
  | .hbm, ⟨9, _⟩ => ⟨S_, .f32⟩
  | .hbm, ⟨10, _⟩ => ⟨S4096x8, .f32⟩
  | .hbm, ⟨11, _⟩ => ⟨S4096x8, .f32⟩
  | .hbm, ⟨12, _⟩ => ⟨S_, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096x1, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S4096x8, .f32⟩
  | .hbm, ⟨25, _⟩ => ⟨S4096x8, .f32⟩
  | .hbm, ⟨26, _⟩ => ⟨S_, .f32⟩
  | .hbm, ⟨27, _⟩ => ⟨S4096x8, .f32⟩
  | .hbm, ⟨28, _⟩ => ⟨S4096x8, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S4096x8, .f32⟩
  | .hbm, ⟨36, _⟩ => ⟨S4096x8, .f32⟩
  | .hbm, ⟨37, _⟩ => ⟨S4096x8, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x8, .f32⟩
  | .hbm, ⟨42, _⟩ => ⟨S4096x8, .f32⟩
  | .hbm, ⟨43, _⟩ => ⟨S_, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S_, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S_, .i32⟩
  | .hbm, ⟨54, _⟩ => ⟨S_, .f32⟩
  | .hbm, ⟨55, _⟩ => ⟨S_, .f32⟩
  | .hbm, ⟨56, _⟩ => ⟨S1, .f32⟩
  | .hbm, ⟨57, _⟩ => ⟨S_, .f32⟩
  | .hbm, ⟨58, _⟩ => ⟨S1, .f32⟩
  | .hbm, ⟨59, _⟩ => ⟨S1, .f32⟩
  | .hbm, ⟨60, _⟩ => ⟨S8, .f32⟩
  | .hbm, ⟨61, _⟩ => ⟨S8, .f32⟩
  | .hbm, ⟨62, _⟩ => ⟨S8, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .i1⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .i32⟩
  | .hbm, ⟨83, _⟩ => ⟨S_, .f32⟩
  | .hbm, ⟨84, _⟩ => ⟨S_, .f32⟩
  | .hbm, ⟨85, _⟩ => ⟨S1, .f32⟩
  | .hbm, ⟨86, _⟩ => ⟨S_, .f32⟩
  | .hbm, ⟨87, _⟩ => ⟨S1, .f32⟩
  | .hbm, ⟨88, _⟩ => ⟨S1, .f32⟩
  | .hbm, ⟨89, _⟩ => ⟨S8, .f32⟩
  | .hbm, ⟨90, _⟩ => ⟨S8, .f32⟩
  | .hbm, ⟨91, _⟩ => ⟨S8, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .i1⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S8, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S8x2048x4096, .f32⟩
  | .hbm, ⟨121, _⟩ => ⟨S4096x2048x8, .f32⟩
  | .hbm, ⟨122, _⟩ => ⟨S2048x8, .f32⟩
  | .hbm, ⟨123, _⟩ => ⟨S1x2048x8, .f32⟩
  | .hbm, ⟨124, _⟩ => ⟨S4096x2048x8, .f32⟩
  | .hbm, ⟨125, _⟩ => ⟨S4096x2048x8, .f32⟩
  | .hbm, ⟨126, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩
abbrev main_c : Ref sig .tc := ⟨.hbm, 53, rfl⟩
abbrev main_call0_call0_cst : Ref sig .tc := ⟨.hbm, 54, rfl⟩
abbrev main_call0_call0_v0 : Ref sig .tc := ⟨.hbm, 55, rfl⟩
abbrev main_call0_call0_v1 : Ref sig .tc := ⟨.hbm, 56, rfl⟩
abbrev main_call0_call0_cst_0 : Ref sig .tc := ⟨.hbm, 57, rfl⟩
abbrev main_call0_call0_v2 : Ref sig .tc := ⟨.hbm, 58, rfl⟩
abbrev main_call0_call0_v3 : Ref sig .tc := ⟨.hbm, 59, rfl⟩
abbrev main_call0_call0_v4 : Ref sig .tc := ⟨.hbm, 60, rfl⟩
abbrev main_call0_call0_v5 : Ref sig .tc := ⟨.hbm, 61, rfl⟩
abbrev main_call0_call0_v6 : Ref sig .tc := ⟨.hbm, 62, rfl⟩
abbrev main_call0_call0_v7 : Ref sig .tc := ⟨.hbm, 63, rfl⟩
abbrev main_call0_call0_cst_1 : Ref sig .tc := ⟨.hbm, 64, rfl⟩
abbrev main_call0_call0_v8 : Ref sig .tc := ⟨.hbm, 65, rfl⟩
abbrev main_call0_call0_cst_2 : Ref sig .tc := ⟨.hbm, 66, rfl⟩
abbrev main_call0_call0_v9 : Ref sig .tc := ⟨.hbm, 67, rfl⟩
abbrev main_call0_call0_v10 : Ref sig .tc := ⟨.hbm, 68, rfl⟩
abbrev main_call0_call0_cst_3 : Ref sig .tc := ⟨.hbm, 69, rfl⟩
abbrev main_call0_call0_v11 : Ref sig .tc := ⟨.hbm, 70, rfl⟩
abbrev main_call0_call0_cst_4 : Ref sig .tc := ⟨.hbm, 71, rfl⟩
abbrev main_call0_call0_call0_v0 : Ref sig .tc := ⟨.hbm, 72, rfl⟩
abbrev main_call0_v0 : Ref sig .tc := ⟨.hbm, 73, rfl⟩
abbrev main_v36 : Ref sig .tc := ⟨.hbm, 74, rfl⟩
abbrev main_cst_11 : Ref sig .tc := ⟨.hbm, 75, rfl⟩
abbrev main_v37 : Ref sig .tc := ⟨.hbm, 76, rfl⟩
abbrev main_cst_12 : Ref sig .tc := ⟨.hbm, 77, rfl⟩
abbrev main_v38 : Ref sig .tc := ⟨.hbm, 78, rfl⟩
abbrev main_cst_13 : Ref sig .tc := ⟨.hbm, 79, rfl⟩
abbrev main_v39 : Ref sig .tc := ⟨.hbm, 80, rfl⟩
abbrev main_v40 : Ref sig .tc := ⟨.hbm, 81, rfl⟩
abbrev main_c_14 : Ref sig .tc := ⟨.hbm, 82, rfl⟩
abbrev main_call1_call0_cst : Ref sig .tc := ⟨.hbm, 83, rfl⟩
abbrev main_call1_call0_v0 : Ref sig .tc := ⟨.hbm, 84, rfl⟩
abbrev main_call1_call0_v1 : Ref sig .tc := ⟨.hbm, 85, rfl⟩
abbrev main_call1_call0_cst_0 : Ref sig .tc := ⟨.hbm, 86, rfl⟩
abbrev main_call1_call0_v2 : Ref sig .tc := ⟨.hbm, 87, rfl⟩
abbrev main_call1_call0_v3 : Ref sig .tc := ⟨.hbm, 88, rfl⟩
abbrev main_call1_call0_v4 : Ref sig .tc := ⟨.hbm, 89, rfl⟩
abbrev main_call1_call0_v5 : Ref sig .tc := ⟨.hbm, 90, rfl⟩
abbrev main_call1_call0_v6 : Ref sig .tc := ⟨.hbm, 91, rfl⟩
abbrev main_call1_call0_v7 : Ref sig .tc := ⟨.hbm, 92, rfl⟩
abbrev main_call1_call0_cst_1 : Ref sig .tc := ⟨.hbm, 93, rfl⟩
abbrev main_call1_call0_v8 : Ref sig .tc := ⟨.hbm, 94, rfl⟩
abbrev main_call1_call0_cst_2 : Ref sig .tc := ⟨.hbm, 95, rfl⟩
abbrev main_call1_call0_v9 : Ref sig .tc := ⟨.hbm, 96, rfl⟩
abbrev main_call1_call0_v10 : Ref sig .tc := ⟨.hbm, 97, rfl⟩
abbrev main_call1_call0_cst_3 : Ref sig .tc := ⟨.hbm, 98, rfl⟩
abbrev main_call1_call0_v11 : Ref sig .tc := ⟨.hbm, 99, rfl⟩
abbrev main_call1_call0_cst_4 : Ref sig .tc := ⟨.hbm, 100, rfl⟩
abbrev main_call1_call0_call0_v0 : Ref sig .tc := ⟨.hbm, 101, rfl⟩
abbrev main_call1_v0 : Ref sig .tc := ⟨.hbm, 102, rfl⟩
abbrev main_v41 : Ref sig .tc := ⟨.hbm, 103, rfl⟩
abbrev main_cst_15 : Ref sig .tc := ⟨.hbm, 104, rfl⟩
abbrev main_v42 : Ref sig .tc := ⟨.hbm, 105, rfl⟩
abbrev main_cst_16 : Ref sig .tc := ⟨.hbm, 106, rfl⟩
abbrev main_v43 : Ref sig .tc := ⟨.hbm, 107, rfl⟩
abbrev main_cst_17 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_cst_18 : Ref sig .tc := ⟨.hbm, 112, rfl⟩
abbrev main_v47 : Ref sig .tc := ⟨.hbm, 113, rfl⟩
abbrev main_cst_19 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_cst_20 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩

abbrev nD : Nat := 1
abbrev τ : Topo := Topo.v7x

variable {F : FTy → Type} [FloatOps F]
-- ==== Proof.KernelIdeal.Gate.lean ====
/- The gating call of the kernel (`cc0__gate_body`, a grid of four blocks of 1024 rows), proved to run: what its body
   leaves in each buffer at each point, by name, and the library's obligation for it. At point `t` the body leaves the
   block of `x` rounded to bf16, the block of softmax rows, and in its scratch row the column sums of every softmax row
   met so far (`psum`); the auxiliary loss is stored at the last point alone. Stated at any float type. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The two branches of the body -/

/-- The branch that zeroes the scratch row. -/
abbrev firstBlock (i : grid0.Coords) : Prop :=
  (Scalar.cmpi .ne (Scalar.extui (Scalar.cmpi .eq (BitVec.ofNat 32 (i 0).val) 0#32)) 0#32) = 1#1
/-- It is taken at the first point. -/
theorem firstBlock_iff (t : Fin cfg0.N) : firstBlock (grid0.coords t) ↔ t.val = 0 := by
  have ht : t.val < 4 := Nat.lt_of_lt_of_eq t.isLt N_0
  have e0 : (grid0.coords t 0).val = t.val / 1 % 4 := Pipeline.Grid.coords_val t 0 (by decide) rfl
  simp only [firstBlock, e0]
  word_cmp

/-- The branch that stores the auxiliary loss. -/
abbrev lastBlock (i : grid0.Coords) : Prop := k0_cond2 i = 1#1
/-- It is taken at the last point. -/
theorem lastBlock_iff (t : Fin cfg0.N) : lastBlock (grid0.coords t) ↔ t.val = 3 := by
  have ht : t.val < 4 := Nat.lt_of_lt_of_eq t.isLt N_0
  have e0 : (grid0.coords t 0).val = t.val / 1 % 4 := Pipeline.Grid.coords_val t 0 (by decide) rfl
  simp only [lastBlock, k0_cond2, e0]
  word_cmp

/-- Away from the last point the window of the auxiliary loss is idle … -/
theorem aux_idle : ∀ t : Fin cfg0.N, ¬lastBlock (grid0.coords t) → cfg0.idle 5 (grid0.coords t) = true := by decide +kernel
/-- … and not written back; at the last point it is live. -/
theorem aux_kept : ∀ t : Fin cfg0.N, ¬lastBlock (grid0.coords t) → (cfg0.win 5).flush t = false := by decide +kernel
theorem aux_live : ∀ t : Fin cfg0.N, lastBlock (grid0.coords t) → cfg0.idle 5 (grid0.coords t) = false := by decide +kernel

/-! ## The body at each kind of point -/

section Body
variable (c : Dev nD) (i : grid0.Coords)
  (arg1 : Memref sig .tc .vmem S1024x2048 .f32) (harg1 : arg1.IsWhole) (arg2 : Memref sig .tc .vmem S2048x8 .f32) (harg2 : arg2.IsWhole)
  (arg3 : Memref sig .tc .vmem S1x8 .f32) (harg3 : arg3.IsWhole) (arg4 : Memref sig .tc .vmem S1024x2048 .bf16) (harg4 : arg4.IsWhole)
  (arg5 : Memref sig .tc .vmem S1024x8 .f32) (harg5 : arg5.IsWhole) (arg6 : Memref sig .tc .vmem S1x1 .f32) (harg6 : arg6.IsWhole)
  (arg7 : Memref sig .tc .vmem S1x8 .f32) (harg7 : arg7.IsWhole)
  (x0 : Vec F S1024x2048 .f32) (x1 : Vec F S2048x8 .f32) (x2 : Vec F S1x8 .f32)

set_option maxHeartbeats 1000000 in
/-- At the first point: the two blocks stored, the scratch row at this block's column sums over zeros, the auxiliary
    loss untouched. -/
theorem gate_first (h0 : firstBlock i) (h1 : ¬lastBlock i) (x5 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2
          ∗ owns (c : Thread nD τ) arg4 fullShare (k0_pay2 x0) ∗ owns (c : Thread nD τ) arg5 fullShare (k0_pay3 x0 x1 x2)
          ∗ owns (c : Thread nD τ) arg6 fullShare x5 ∗ owns (c : Thread nD τ) arg7 fullShare (k0_pay5 x0 x1 x2 k0_pay4)) -∗ K ⟨⟩))
      ⊢ wp frame (wpE (defs₀ (F := F)) Variants.none c none) E
          (cc0__gate_body i arg1 harg1 arg2 harg2 arg3 harg3 arg4 harg4 arg5 harg5 arg6 harg6 arg7 harg7) K := by
  simp only [cc0__gate_body_eq_skeleton]; unfold cc0__gate_body_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%d7, %f7, -, H7⟩, Hk⟩
  obtain rfl := harg1.eq_unread hf0; obtain rfl := harg2.eq_unread hf1; obtain rfl := harg3.eq_unread hf2
  sl_exec (disch := first | sl_exact h0 | sl_exact h1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_words
    rw [View.read_writes_eq_canon _ _ _ (View.cover_of_tiledL _ S1024x2048.size (by sl_kernel_rfl)), View.canon_cons_unit_zero (S := S1024x2048) zeros2]
    simp only [View.readAt_eq_ld, harg1.read_unread, View.ld_unit_zero (S := S1024x2048) zeros2]
  isplitl [H4]
  · iexists _; isplitr
    swap; · iexact H4
    ipureintro
    sl_unfold_words
    rw [View.read_writes_eq_canon _ _ _ (View.cover_of_tiledL _ S1024x8.size (by sl_kernel_rfl)), View.canon_cons_unit_zero (S := S1024x8) zeros2]
    simp only [View.readAt_eq_ld, harg1.read_unread, harg2.read_unread, harg3.read_unread, View.ld_unit_zero (S := S1024x2048) zeros2,
      View.ld_unit_zero (S := S2048x8) zeros2, View.ld_unit_zero (S := S1x8) zeros2]
  isplitl [H5]
  · iexists _; isplitr; · ipureintro; exact hf5
    iexact H5
  iexists _; isplitr
  swap; · iexact H7
  ipureintro
  sl_unfold_words
  rw [View.read_writes_eq_canon _ _ _ (View.cover_of_tiledL _ S1x8.size (by sl_kernel_rfl)), View.canon_cons_unit_zero (S := S1x8) zeros2,
    View.readCov_unit_zero (S := S1x8) _ zeros2]
  simp only [View.readAt_eq_ld, harg1.read_unread, harg2.read_unread, harg3.read_unread, View.ld_unit_zero (S := S1024x2048) zeros2,
    View.ld_unit_zero (S := S2048x8) zeros2, View.ld_unit_zero (S := S1x8) zeros2]

set_option maxHeartbeats 1000000 in
/-- At a middle point: the two blocks stored, the block's column sums added to the scratch row, the auxiliary loss
    untouched. -/
theorem gate_middle (h0 : ¬firstBlock i) (h1 : ¬lastBlock i) (x5 : Vec F S1x1 .f32) (x7 : Vec F S1x8 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ owns (c : Thread nD τ) arg6 fullShare x5 ∗ owns (c : Thread nD τ) arg7 fullShare x7
        ∗ (iprop(owns (c : Thread nD τ) arg1 fullShare x0 ∗ owns (c : Thread nD τ) arg2 fullShare x1 ∗ owns (c : Thread nD τ) arg3 fullShare x2
          ∗ owns (c : Thread nD τ) arg4 fullShare (k0_pay2 x0) ∗ owns (c : Thread nD τ) arg5 fullShare (k0_pay3 x0 x1 x2)
          ∗ owns (c : Thread nD τ) arg6 fullShare x5 ∗ owns (c : Thread nD τ) arg7 fullShare (k0_pay5 x0 x1 x2 x7)) -∗ K ⟨⟩))
      ⊢ wp frame (wpE (defs₀ (F := F)) Variants.none c none) E
          (cc0__gate_body i arg1 harg1 arg2 harg2 arg3 harg3 arg4 harg4 arg5 harg5 arg6 harg6 arg7 harg7) K := by
  simp only [cc0__gate_body_eq_skeleton]; unfold cc0__gate_body_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%f7, %hf7, H7⟩, Hk⟩
  obtain rfl := harg1.eq_unread hf0; obtain rfl := harg2.eq_unread hf1; obtain rfl := harg3.eq_unread hf2; obtain rfl := harg7.eq_unread hf7
  sl_exec (disch := first | sl_exact h0 | sl_exact h1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_words
    rw [View.read_writes_eq_canon _ _ _ (View.cover_of_tiledL _ S1024x2048.size (by sl_kernel_rfl)), View.canon_cons_unit_zero (S := S1024x2048) zeros2]
    simp only [View.readAt_eq_ld, harg1.read_unread, View.ld_unit_zero (S := S1024x2048) zeros2]
  isplitl [H4]
  · iexists _; isplitr
    swap; · iexact H4
    ipureintro
    sl_unfold_words
    rw [View.read_writes_eq_canon _ _ _ (View.cover_of_tiledL _ S1024x8.size (by sl_kernel_rfl)), View.canon_cons_unit_zero (S := S1024x8) zeros2]
    simp only [View.readAt_eq_ld, harg1.read_unread, harg2.read_unread, harg3.read_unread, View.ld_unit_zero (S := S1024x2048) zeros2,
      View.ld_unit_zero (S := S2048x8) zeros2, View.ld_unit_zero (S := S1x8) zeros2]
  isplitl [H5]
  · iexists _; isplitr; · ipureintro; exact hf5
    iexact H5
  iexists _; isplitr
  swap; · iexact H7
  ipureintro
  sl_unfold_words
  rw [View.read_writes_eq_canon _ _ _ (View.cover_of_tiledL _ S1x8.size (by sl_kernel_rfl)), View.canon_cons_unit_zero (S := S1x8) zeros2]
  simp only [View.readAt_eq_ld, harg1.read_unread, harg2.read_unread, harg3.read_unread, harg7.read_unread, View.ld_unit_zero (S := S1024x2048) zeros2,
    View.ld_unit_zero (S := S2048x8) zeros2, View.ld_unit_zero (S := S1x8) zeros2]

set_option maxHeartbeats 1000000 in
/-- At the last point: the two blocks stored, the block's column sums added to the scratch row, the auxiliary loss
    stored from the scratch row as it now stands. -/
theorem gate_last (h0 : ¬firstBlock i) (h1 : lastBlock i) (x7 : Vec F S1x8 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (∃ d, owns (c : Thread nD τ) arg6 fullShare d) ∗ owns (c : Thread nD τ) arg7 fullShare x7
        ∗ (iprop(owns (c : Thread nD τ) arg1 fullShare x0 ∗ owns (c : Thread nD τ) arg2 fullShare x1 ∗ owns (c : Thread nD τ) arg3 fullShare x2
          ∗ owns (c : Thread nD τ) arg4 fullShare (k0_pay2 x0) ∗ owns (c : Thread nD τ) arg5 fullShare (k0_pay3 x0 x1 x2)
          ∗ owns (c : Thread nD τ) arg6 fullShare (k0_pay1 (k0_pay5 x0 x1 x2 x7)) ∗ owns (c : Thread nD τ) arg7 fullShare (k0_pay5 x0 x1 x2 x7)) -∗ K ⟨⟩))
      ⊢ wp frame (wpE (defs₀ (F := F)) Variants.none c none) E
          (cc0__gate_body i arg1 harg1 arg2 harg2 arg3 harg3 arg4 harg4 arg5 harg5 arg6 harg6 arg7 harg7) K := by
  simp only [cc0__gate_body_eq_skeleton]; unfold cc0__gate_body_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f7, %hf7, H7⟩, Hk⟩
  obtain rfl := harg1.eq_unread hf0; obtain rfl := harg2.eq_unread hf1; obtain rfl := harg3.eq_unread hf2; obtain rfl := harg7.eq_unread hf7
  sl_exec (disch := first | sl_exact h0 | sl_exact h1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    sl_unfold_words
    rw [View.read_writes_eq_canon _ _ _ (View.cover_of_tiledL _ S1024x2048.size (by sl_kernel_rfl)), View.canon_cons_unit_zero (S := S1024x2048) zeros2]
    simp only [View.readAt_eq_ld, harg1.read_unread, View.ld_unit_zero (S := S1024x2048) zeros2]
  isplitl [H4]
  · iexists _; isplitr
    swap; · iexact H4
    ipureintro
    sl_unfold_words
    rw [View.read_writes_eq_canon _ _ _ (View.cover_of_tiledL _ S1024x8.size (by sl_kernel_rfl)), View.canon_cons_unit_zero (S := S1024x8) zeros2]
    simp only [View.readAt_eq_ld, harg1.read_unread, harg2.read_unread, harg3.read_unread, View.ld_unit_zero (S := S1024x2048) zeros2,
      View.ld_unit_zero (S := S2048x8) zeros2, View.ld_unit_zero (S := S1x8) zeros2]
  isplitl [H5]
  · iexists _; isplitr
    swap; · iexact H5
    ipureintro
    sl_unfold_words
    rw [View.read_writes_eq_canon _ _ _ (View.cover_of_tiledL _ S1x1.size (by sl_kernel_rfl)), View.canon_cons_unit_zero (S := S1x1) zeros2,
      View.readCov_unit_zero (S := S1x8) _ zeros2]
    simp only [View.readAt_eq_ld, harg1.read_unread, harg2.read_unread, harg3.read_unread, harg7.read_unread, View.ld_unit_zero (S := S1024x2048) zeros2,
      View.ld_unit_zero (S := S2048x8) zeros2, View.ld_unit_zero (S := S1x8) zeros2]
  iexists _; isplitr
  swap; · iexact H7
  ipureintro
  sl_unfold_words
  rw [View.read_writes_eq_canon _ _ _ (View.cover_of_tiledL _ S1x8.size (by sl_kernel_rfl)), View.canon_cons_unit_zero (S := S1x8) zeros2]
  simp only [View.readAt_eq_ld, harg1.read_unread, harg2.read_unread, harg3.read_unread, harg7.read_unread, View.ld_unit_zero (S := S1024x2048) zeros2,
    View.ld_unit_zero (S := S2048x8) zeros2, View.ld_unit_zero (S := S1x8) zeros2]

end Body

/-! ## The call's data: what every buffer holds, point by point -/

-- the buffers' contents when the call is entered
variable (V : (c : Dev nD) → (b : Ref sig .tc) → Buf (Elt F) ((c : Thread nD τ).loc b))

/-- Window `w`'s block at point `t`, read off its array as the call finds it. -/
def gateBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The scratch row after point `n`: the column sums of the softmax rows of blocks 0 to `n`. -/
def psum (c : Dev nD) : (n : ℕ) → n < cfg0.N → Vec F S1x8 .f32
  | 0, h => k0_pay5 (gateBlk V c 0 ⟨0, h⟩) (gateBlk V c 1 ⟨0, h⟩) (gateBlk V c 2 ⟨0, h⟩) k0_pay4
  | n + 1, h => k0_pay5 (gateBlk V c 0 ⟨n + 1, h⟩) (gateBlk V c 1 ⟨n + 1, h⟩) (gateBlk V c 2 ⟨n + 1, h⟩) (psum c n (Nat.lt_of_succ_lt h))

theorem psum_first (c : Dev nD) (t : Fin cfg0.N) (h : t.val = 0) :
    psum V c t.val t.isLt = k0_pay5 (gateBlk V c 0 t) (gateBlk V c 1 t) (gateBlk V c 2 t) k0_pay4 := by
  obtain ⟨n, hn⟩ := t; subst h; rfl
theorem psum_next (c : Dev nD) (t : Fin cfg0.N) (h : t.val ≠ 0) :
    psum V c t.val t.isLt = k0_pay5 (gateBlk V c 0 t) (gateBlk V c 1 t) (gateBlk V c 2 t)
      (psum V c (t.val - 1) (Nat.lt_of_le_of_lt (Nat.sub_le _ _) t.isLt)) := by
  obtain ⟨n, hn⟩ := t
  cases n with
  | zero => exact absurd rfl h
  | succ n => rfl

/-- The scratch row's buffer. -/
abbrev scratchRow : Memref sig .tc .vmem S1x8 .f32 := Memref.whole cc0_scratch0

/-- The scoped buffers of the other call, each at anything. -/
def otherScoped (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- The library's invariant of a call, its scratch row named: the row at anything, the other call's buffers, the
    generator register. -/
theorem gateInv_eq (c : Dev nD) :
    (Pipeline.ΦA spec0 c : sProp 𝕄)
      = iprop(iprop((∃ d, owns (c : Thread nD τ) scratchRow fullShare d) ∗ otherScoped c) ∗ (∃ r, prngReg c r)) := by
  unfold Pipeline.ΦA otherScoped; rw [scopedRest0_eq]; simp only [scratchRow, owns_whole]; try rfl

/-- The invariant before position `n`: the scratch row at anything before the first point, at the running column sums
    afterwards. -/
def gateInv (c : Dev nD) : (n : ℕ) → n ≤ cfg0.N → sProp 𝕄
  | 0, _ => Pipeline.ΦA spec0 c
  | n + 1, hn => iprop(iprop(owns (c : Thread nD τ) scratchRow fullShare (psum V c n hn) ∗ otherScoped c) ∗ (∃ r, prngReg c r))

theorem gateInv_zero (c : Dev nD) (n : ℕ) (h : n ≤ cfg0.N) (hz : n = 0) : gateInv V c n h = Pipeline.ΦA spec0 c := by
  subst hz; rfl
theorem gateInv_succ (c : Dev nD) (n : ℕ) (hn : n < cfg0.N) :
    gateInv V c (n + 1) hn = iprop(iprop(owns (c : Thread nD τ) scratchRow fullShare (psum V c n hn) ∗ otherScoped c) ∗ (∃ r, prngReg c r)) := rfl
theorem gateInv_pos (c : Dev nD) (n : ℕ) (h : n ≤ cfg0.N) (hz : n ≠ 0) :
    gateInv V c n h = iprop(iprop(owns (c : Thread nD τ) scratchRow fullShare (psum V c (n - 1) (by omega)) ∗ otherScoped c) ∗ (∃ r, prngReg c r)) := by
  cases n with
  | zero => exact absurd rfl hz
  | succ n => rfl

/-- The call's data on core `c`: the arrays as found; after point `t` each input's buffer at its block, the outputs'
    at the body's values; nothing owed; full shares. -/
def gateDat (c : Dev nD) : Dat τ (Elt F) Unit ℕ (UR sig nD τ) ℕ cfg0 c where
  A w := V c (Pipeline.arrRef spec0 w)
  after w t := match w with
    | ⟨0, _⟩ => gateBlk V c 0 t
    | ⟨1, _⟩ => gateBlk V c 1 t
    | ⟨2, _⟩ => gateBlk V c 2 t
    | ⟨3, _⟩ => k0_pay2 (gateBlk V c 0 t)
    | ⟨4, _⟩ => k0_pay3 (gateBlk V c 0 t) (gateBlk V c 1 t) (gateBlk V c 2 t)
    | ⟨5, _⟩ => k0_pay1 (psum V c t.val t.isLt)
  Φ t := gateInv V c t.val (Nat.le_of_lt_succ t.isLt)
  q _ := fullShare
  owed _ := 0

theorem gateDat_A (c : Dev nD) (w : Fin cfg0.W) : (gateDat V c).A w = V c (Pipeline.arrRef spec0 w) := by dsimp only [gateDat]
theorem gateDat_Φ (c : Dev nD) (t : Fin cfg0.N) :
    (gateDat V c).Φ t.castSucc = gateInv V c t.val (Nat.le_of_lt t.isLt) := by
  dsimp only [gateDat]; exact Pipeline.Dat.Φ_castSucc (gateInv V c) t
theorem gate_after0 (c : Dev nD) (t : Fin cfg0.N) : (gateDat V c).after 0 t = gateBlk V c 0 t := by dsimp only [gateDat]
theorem gate_after1 (c : Dev nD) (t : Fin cfg0.N) : (gateDat V c).after 1 t = gateBlk V c 1 t := by dsimp only [gateDat]
theorem gate_after2 (c : Dev nD) (t : Fin cfg0.N) : (gateDat V c).after 2 t = gateBlk V c 2 t := by dsimp only [gateDat]
theorem gate_after3 (c : Dev nD) (t : Fin cfg0.N) : (gateDat V c).after 3 t = k0_pay2 (gateBlk V c 0 t) := by dsimp only [gateDat]
theorem gate_after4 (c : Dev nD) (t : Fin cfg0.N) :
    (gateDat V c).after 4 t = k0_pay3 (gateBlk V c 0 t) (gateBlk V c 1 t) (gateBlk V c 2 t) := by dsimp only [gateDat]
theorem gate_after5 (c : Dev nD) (t : Fin cfg0.N) : (gateDat V c).after 5 t = k0_pay1 (psum V c t.val t.isLt) := by dsimp only [gateDat]

/-- Each input's buffer holds its block at every point, fetched there or not: where it is not fetched its block index
    has not moved. -/
theorem gate_before0 (c : Dev nD) (t : Fin cfg0.N) (d) : (gateDat V c).before 0 t d = gateBlk V c 0 t :=
  ((gateDat V c).before_in_eq_fetched 0 rfl (fun _ => rfl) (fun _ _ _ => rfl)
    (fun t => by rw [gate_after0]; unfold Dat.blockOf gateBlk; rw [gateDat_A]; try rfl) t d).trans
    (by unfold Dat.fetched Dat.blockOf gateBlk; rw [gateDat_A]; try rfl)
theorem gate_before1 (c : Dev nD) (t : Fin cfg0.N) (d) : (gateDat V c).before 1 t d = gateBlk V c 1 t :=
  ((gateDat V c).before_in_eq_fetched 1 rfl (fun _ => rfl) (fun _ _ _ => rfl)
    (fun t => by rw [gate_after1]; unfold Dat.blockOf gateBlk; rw [gateDat_A]; try rfl) t d).trans
    (by unfold Dat.fetched Dat.blockOf gateBlk; rw [gateDat_A]; try rfl)
theorem gate_before2 (c : Dev nD) (t : Fin cfg0.N) (d) : (gateDat V c).before 2 t d = gateBlk V c 2 t :=
  ((gateDat V c).before_in_eq_fetched 2 rfl (fun _ => rfl) (fun _ _ _ => rfl)
    (fun t => by rw [gate_after2]; unfold Dat.blockOf gateBlk; rw [gateDat_A]; try rfl) t d).trans
    (by unfold Dat.fetched Dat.blockOf gateBlk; rw [gateDat_A]; try rfl)

/-! ## The obligation at every point -/

/-- What the body is called with at point `t`, window by window, -/
def gatePre (c : Dev nD) (t : Fin cfg0.N) : sProp 𝕄 :=
  iprop((gateDat V c).Φ t.castSucc ∗ (gateDat V c).owesAt () t.castSucc
    ∗ (∃ d, owns (c : Thread nD τ) (st0_0 t) fullShare ((gateDat V c).before 0 t d))
    ∗ (∃ d, owns (c : Thread nD τ) (st0_1 t) fullShare ((gateDat V c).before 1 t d))
    ∗ (∃ d, owns (c : Thread nD τ) (st0_2 t) fullShare ((gateDat V c).before 2 t d))
    ∗ (∃ d, owns (c : Thread nD τ) (st0_3 t) fullShare ((gateDat V c).before 3 t d))
    ∗ (∃ d, owns (c : Thread nD τ) (st0_4 t) fullShare ((gateDat V c).before 4 t d))
    ∗ (∃ d, owns (c : Thread nD τ) (st0_5 t) fullShare ((gateDat V c).before 5 t d)))

/-- and what it returns. -/
def gatePost (c : Dev nD) (t : Fin cfg0.N) : sProp 𝕄 :=
  iprop((gateDat V c).Φ t.succ ∗ (gateDat V c).owesAt () t.succ
    ∗ (gateDat V c).leavesExact 0 t ∗ (gateDat V c).leavesExact 1 t ∗ (gateDat V c).leavesExact 2 t
    ∗ (gateDat V c).leavesExact 3 t ∗ (gateDat V c).leavesExact 4 t ∗ (gateDat V c).leavesExact 5 t)

/-- A window the body stores into at point `t` is left at the data's contents. -/
theorem gate_leaves (c : Dev nD) (w : Fin cfg0.W) (t : Fin cfg0.N) (hl : cfg0.idle w (grid0.coords t) = false) :
    (gateDat V c).leavesExact w t = owns (c : Thread nD τ) ((cfg0.win w).stage (cfg0.slots t w)) fullShare ((gateDat V c).after w t) := by
  unfold Dat.leavesExact; rw [hl]

set_option maxHeartbeats 4000000 in
/-- The body at any point meets its specification: the input buffers hold their blocks, the scratch row what the point
    before left (anything at the first point); the three body theorems say the rest. -/
theorem gate_sound (c : Dev nD) (t : Fin cfg0.N) :
    gatePre V c t ⊢ wp frame (wpE (defs₀ (F := F)) Variants.none c none) Set.univ (bodyAt0 t) (fun _ => gatePost V c t) := by
  unfold gatePre gatePost bodyAt0
  simp only [gate_before0, gate_before1, gate_before2]
  rw [show (gateDat V c).owesAt () t.succ = (gateDat V c).owesAt () t.castSucc from rfl,
    show (gateDat V c).Φ t.succ = gateInv V c (t.val + 1) t.isLt from rfl, gateInv_succ,
    gate_leaves V c 0 t rfl, gate_leaves V c 1 t rfl, gate_leaves V c 2 t rfl, gate_leaves V c 3 t rfl, gate_leaves V c 4 t rfl,
    gate_after0, gate_after1, gate_after2, gate_after3, gate_after4, gateDat_Φ V c t]
  have hN : t.val < 4 := lt_of_lt_of_eq t.isLt (show cfg0.N = 4 from N_0)
  by_cases h0 : t.val = 0
  · have hl : ¬lastBlock (grid0.coords t) := fun h => by have := (lastBlock_iff t).mp h; omega
    rw [Dat.leavesExact_idle (gateDat V c) 5 t (aux_idle t hl) (aux_kept t hl), gateInv_zero V c _ _ h0, gateInv_eq, psum_first V c t h0]
    iintro ⟨⟨⟨HS, HO⟩, Hg⟩, Ho, ⟨%d0, H0⟩, ⟨%d1, H1⟩, ⟨%d2, H2⟩, ⟨%d3, H3⟩, ⟨%d4, H4⟩, ⟨%d5, H5⟩⟩
    iapply (gate_first c (grid0.coords t) _ _ _ _ _ _ _ _ _ _ _ _ _ _ (gateBlk V c 0 t) (gateBlk V c 1 t) (gateBlk V c 2 t) ((firstBlock_iff t).mpr h0) hl _ Set.univ _)
    isplitl [H0]; · iexact H0
    isplitl [H1]; · iexact H1
    isplitl [H2]; · iexact H2
    isplitl [H3]; · iexists _; iexact H3
    isplitl [H4]; · iexists _; iexact H4
    isplitl [H5]; · iexact H5
    isplitl [HS]; · iexact HS
    iintro ⟨H0, H1, H2, H3, H4, H5, HS⟩
    isplitl [HS HO Hg]
    · isplitl [HS HO]
      · isplitl [HS] <;> iassumption
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · rw [gateInv_pos V c _ _ h0, psum_next V c t h0]
    by_cases h1 : t.val = 3
    · have hl : lastBlock (grid0.coords t) := (lastBlock_iff t).mpr h1
      rw [gate_leaves V c 5 t (aux_live t hl), gate_after5, psum_next V c t h0]
      iintro ⟨⟨⟨HS, HO⟩, Hg⟩, Ho, ⟨%d0, H0⟩, ⟨%d1, H1⟩, ⟨%d2, H2⟩, ⟨%d3, H3⟩, ⟨%d4, H4⟩, ⟨%d5, H5⟩⟩
      iapply (gate_last c (grid0.coords t) _ _ _ _ _ _ _ _ _ _ _ _ _ _ (gateBlk V c 0 t) (gateBlk V c 1 t) (gateBlk V c 2 t) (fun h => h0 ((firstBlock_iff t).mp h)) hl _ Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS]; · iexact HS
      iintro ⟨H0, H1, H2, H3, H4, H5, HS⟩
      isplitl [HS HO Hg]
      · isplitl [HS HO]
        · isplitl [HS] <;> iassumption
        iexact Hg
      isplitl [Ho]; · iexact Ho
      isplitl [H0]; · iexact H0
      isplitl [H1]; · iexact H1
      isplitl [H2]; · iexact H2
      isplitl [H3]; · iexact H3
      isplitl [H4]; · iexact H4
      iexact H5
    · have hl : ¬lastBlock (grid0.coords t) := fun h => h1 ((lastBlock_iff t).mp h)
      rw [Dat.leavesExact_idle (gateDat V c) 5 t (aux_idle t hl) (aux_kept t hl)]
      iintro ⟨⟨⟨HS, HO⟩, Hg⟩, Ho, ⟨%d0, H0⟩, ⟨%d1, H1⟩, ⟨%d2, H2⟩, ⟨%d3, H3⟩, ⟨%d4, H4⟩, ⟨%d5, H5⟩⟩
      iapply (gate_middle c (grid0.coords t) _ _ _ _ _ _ _ _ _ _ _ _ _ _ (gateBlk V c 0 t) (gateBlk V c 1 t) (gateBlk V c 2 t) (fun h => h0 ((firstBlock_iff t).mp h)) hl _ _ Set.univ _)
      isplitl [H0]; · iexact H0
      isplitl [H1]; · iexact H1
      isplitl [H2]; · iexact H2
      isplitl [H3]; · iexists _; iexact H3
      isplitl [H4]; · iexists _; iexact H4
      isplitl [H5]; · iexact H5
      isplitl [HS]; · iexact HS
      iintro ⟨H0, H1, H2, H3, H4, H5, HS⟩
      isplitl [HS HO Hg]
      · isplitl [HS HO]
        · isplitl [HS] <;> iassumption
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body table's row at point `t`'s buffers is the body there. -/
theorem gate_row (t : Fin cfg0.N) : defs₀ (F := F) .tc cfg0.body (cfg0.bodyArgs t (cfg0.slots t)) = bodyAt0 t := by
  unfold defs₀; rw [Defs.onTc_tc]

/-- The library's obligation for the gating call. -/
theorem gate_obligation (c : Dev nD) : BodyObligation (gateDat (F := F) V c) (defs₀ (F := F)) Variants.none () Set.univ := fun t => by
  rw [bigSep_W0, bigSep_W0, gate_row]
  exact triple_restated (gate_sound V c t) rfl .rfl fun _ => .rfl

/-- After the last point the invariant gives the library's back: the scratch row's contents are forgotten. -/
theorem gateInv_out (c : Dev nD) : (gateDat V c).Φ (Fin.last cfg0.N) ⊢ Pipeline.ΦA spec0 c := by
  rw [show (gateDat V c).Φ (Fin.last cfg0.N) = gateInv V c cfg0.N (Nat.le_refl _) from rfl,
    gateInv_pos V c _ _ (by rw [show cfg0.N = 4 from N_0]; decide), gateInv_eq]
  iintro ⟨⟨HS, HO⟩, Hg⟩
  isplitl [HS HO]
  · isplitl [HS]
    · iexists _; iexact HS
    iexact HO
  iexact Hg

end Cert.KernelIdeal.Run

end
-- ==== Proof.KernelIdeal.Experts.lean ====
/- The experts' call of the kernel (`cc1__moe_body`, a grid of four column blocks by eight experts), proved to run: what
   its body leaves in each buffer at each point, by name, and the library's obligation for it. At point `t` the body adds
   expert `t % 8`'s weighted product to the output block, which it starts from the weighted biases where `t % 8 = 0`
   (`expertSum`). Stated at any float type. -/
module

public import proofs.«01_k».proof.Proof.KernelIdeal.Gate

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at each kind of point -/

/-- The branch that starts the output block from the weighted biases. -/
abbrev firstExpert (i : grid1.Coords) : Prop :=
  (Scalar.cmpi .ne (Scalar.extui (Scalar.cmpi .eq (BitVec.ofNat 32 (i 1).val) 0#32)) 0#32) = 1#1
/-- It is taken at expert 0. -/
theorem firstExpert_iff (t : Fin cfg1.N) : firstExpert (grid1.coords t) ↔ t.val % 8 = 0 := by
  have ht : t.val < 32 := Nat.lt_of_lt_of_eq t.isLt N_1
  have e0 : (grid1.coords t 0).val = t.val / 8 % 4 := Pipeline.Grid.coords_val t 0 (by decide) rfl
  have e1 : (grid1.coords t 1).val = t.val / 1 % 8 := Pipeline.Grid.coords_val t 1 (by decide) rfl
  simp only [firstExpert, e0, e1]
  word_cmp

section Body
variable (c : Dev nD) (i : grid1.Coords)
  (arg2 : Memref sig .tc .vmem S4096x2048 .bf16) (harg2 : arg2.IsWhole) (arg3 : Memref sig .tc .vmem S4096x8 .f32) (harg3 : arg3.IsWhole)
  (arg4 : Memref sig .tc .vmem S1x2048x512 .f32) (harg4 : arg4.IsWhole) (arg5 : Memref sig .tc .vmem S8x512 .f32) (harg5 : arg5.IsWhole)
  (arg6 : Memref sig .tc .vmem S4096x512 .f32) (harg6 : arg6.IsWhole)
  (x0 : Vec F S4096x2048 .bf16) (x1 : Vec F S4096x8 .f32) (x2 : Vec F S1x2048x512 .f32) (x3 : Vec F S8x512 .f32)

set_option maxHeartbeats 1000000 in
/-- At expert 0: the output block at the weighted biases plus expert 0's weighted product. -/
theorem experts_first (h0 : firstExpert i) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare (k1_pay2 i x1 (k1_pay1 x1 x3) x0 x2)) -∗ K ⟨⟩))
      ⊢ wp frame (wpE (defs₀ (F := F)) Variants.none c none) E
          (cc1__moe_body i arg2 harg2 arg3 harg3 arg4 harg4 arg5 harg5 arg6 harg6) K := by
  simp only [cc1__moe_body_eq_skeleton]; unfold cc1__moe_body_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec (disch := first | sl_exact h0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  sl_unfold_words
  rw [View.read_writes_eq_canon _ _ _ (View.cover_of_tiledL _ S4096x512.size (by sl_kernel_rfl)), View.canon_cons_unit_zero (S := S4096x512) zeros2,
    View.readCov_unit_zero (S := S4096x512) _ zeros2]
  simp only [View.readAt_eq_ld, harg2.read_unread, harg3.read_unread, harg4.read_unread, harg5.read_unread,
    View.ld_unit_zero (S := S4096x2048) zeros2, View.ld_unit_zero (S := S4096x8) zeros2, View.ld_unit_zero (S := S1x2048x512) zeros3,
    View.ld_unit_zero (S := S8x512) zeros2]

set_option maxHeartbeats 1000000 in
/-- At a later expert: its weighted product added to the output block. -/
theorem experts_next (h0 : ¬firstExpert i) (x4 : Vec F S4096x512 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare (k1_pay2 i x1 x4 x0 x2)) -∗ K ⟨⟩))
      ⊢ wp frame (wpE (defs₀ (F := F)) Variants.none c none) E
          (cc1__moe_body i arg2 harg2 arg3 harg3 arg4 harg4 arg5 harg5 arg6 harg6) K := by
  simp only [cc1__moe_body_eq_skeleton]; unfold cc1__moe_body_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1; obtain rfl := harg4.eq_unread hf2; obtain rfl := harg5.eq_unread hf3
  obtain rfl := harg6.eq_unread hf4
  sl_exec (disch := first | sl_exact h0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  sl_unfold_words
  rw [View.read_writes_eq_canon _ _ _ (View.cover_of_tiledL _ S4096x512.size (by sl_kernel_rfl)), View.canon_cons_unit_zero (S := S4096x512) zeros2]
  simp only [View.readAt_eq_ld, harg2.read_unread, harg3.read_unread, harg4.read_unread, harg5.read_unread, harg6.read_unread,
    View.ld_unit_zero (S := S4096x2048) zeros2, View.ld_unit_zero (S := S4096x8) zeros2, View.ld_unit_zero (S := S1x2048x512) zeros3,
    View.ld_unit_zero (S := S8x512) zeros2, View.ld_unit_zero (S := S4096x512) zeros2]

end Body

/-! ## The call's data: what every buffer holds, point by point -/

variable (V : (c : Dev nD) → (b : Ref sig .tc) → Buf (Elt F) ((c : Thread nD τ).loc b))

/-- Window `w`'s block at point `t`, read off its array as the call finds it. -/
def expertBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block after the first expert of a column block … -/
def expertStart (c : Dev nD) (t : Fin cfg1.N) : Vec F S4096x512 .f32 :=
  k1_pay2 (grid1.coords t) (expertBlk V c 1 t) (k1_pay1 (expertBlk V c 1 t) (expertBlk V c 3 t)) (expertBlk V c 0 t) (expertBlk V c 2 t)
/-- … and after a later one, from what the one before left. -/
def expertStep (c : Dev nD) (t : Fin cfg1.N) (a : Vec F S4096x512 .f32) : Vec F S4096x512 .f32 :=
  k1_pay2 (grid1.coords t) (expertBlk V c 1 t) a (expertBlk V c 0 t) (expertBlk V c 2 t)

/-- The output block after point `n`: experts 0 to `n % 8` of column block `n / 8`. -/
def expertSum (c : Dev nD) : (n : ℕ) → n < cfg1.N → Vec F S4096x512 .f32
  | 0, h => expertStart V c ⟨0, h⟩
  | n + 1, h => if (n + 1) % 8 = 0 then expertStart V c ⟨n + 1, h⟩
      else expertStep V c ⟨n + 1, h⟩ (expertSum c n (Nat.lt_of_succ_lt h))

theorem expertSum_first (c : Dev nD) (t : Fin cfg1.N) (h : t.val % 8 = 0) : expertSum V c t.val t.isLt = expertStart V c t := by
  obtain ⟨n, hn⟩ := t
  cases n with
  | zero => rfl
  | succ n => exact (if_pos h).trans rfl
theorem expertSum_next (c : Dev nD) (t : Fin cfg1.N) (h : ¬t.val % 8 = 0) :
    expertSum V c t.val t.isLt = expertStep V c t (expertSum V c (t.val - 1) (Nat.lt_of_le_of_lt (Nat.sub_le _ _) t.isLt)) := by
  obtain ⟨n, hn⟩ := t
  cases n with
  | zero => exact absurd (Nat.zero_mod 8) h
  | succ n => exact (if_neg h).trans rfl

/-- The call's data on core `c`: the arrays as found; after point `t` each input's buffer at its block, the output's
    at the running sum; the library's own invariant; nothing owed; full shares. -/
def expertDat (c : Dev nD) : Dat τ (Elt F) Unit ℕ (UR sig nD τ) ℕ cfg1 c where
  A w := V c (Pipeline.arrRef spec1 w)
  after w t := match w with
    | ⟨0, _⟩ => expertBlk V c 0 t
    | ⟨1, _⟩ => expertBlk V c 1 t
    | ⟨2, _⟩ => expertBlk V c 2 t
    | ⟨3, _⟩ => expertBlk V c 3 t
    | ⟨4, _⟩ => expertSum V c t.val t.isLt
  Φ _ := Pipeline.ΦA spec1 c
  q _ := fullShare
  owed _ := 0

theorem expertDat_A (c : Dev nD) (w : Fin cfg1.W) : (expertDat V c).A w = V c (Pipeline.arrRef spec1 w) := by dsimp only [expertDat]
theorem expert_after0 (c : Dev nD) (t : Fin cfg1.N) : (expertDat V c).after 0 t = expertBlk V c 0 t := by dsimp only [expertDat]
theorem expert_after1 (c : Dev nD) (t : Fin cfg1.N) : (expertDat V c).after 1 t = expertBlk V c 1 t := by dsimp only [expertDat]
theorem expert_after2 (c : Dev nD) (t : Fin cfg1.N) : (expertDat V c).after 2 t = expertBlk V c 2 t := by dsimp only [expertDat]
theorem expert_after3 (c : Dev nD) (t : Fin cfg1.N) : (expertDat V c).after 3 t = expertBlk V c 3 t := by dsimp only [expertDat]
theorem expert_after4 (c : Dev nD) (t : Fin cfg1.N) : (expertDat V c).after 4 t = expertSum V c t.val t.isLt := by dsimp only [expertDat]

/-- Each input's buffer holds its block at every point. -/
theorem expert_before0 (c : Dev nD) (t : Fin cfg1.N) (d) : (expertDat V c).before 0 t d = expertBlk V c 0 t :=
  ((expertDat V c).before_in_eq_fetched 0 rfl (fun _ => rfl) (fun _ _ _ => rfl)
    (fun t => by rw [expert_after0]; unfold Dat.blockOf expertBlk; rw [expertDat_A]; try rfl) t d).trans
    (by unfold Dat.fetched Dat.blockOf expertBlk; rw [expertDat_A]; try rfl)
theorem expert_before1 (c : Dev nD) (t : Fin cfg1.N) (d) : (expertDat V c).before 1 t d = expertBlk V c 1 t :=
  ((expertDat V c).before_in_eq_fetched 1 rfl (fun _ => rfl) (fun _ _ _ => rfl)
    (fun t => by rw [expert_after1]; unfold Dat.blockOf expertBlk; rw [expertDat_A]; try rfl) t d).trans
    (by unfold Dat.fetched Dat.blockOf expertBlk; rw [expertDat_A]; try rfl)
theorem expert_before2 (c : Dev nD) (t : Fin cfg1.N) (d) : (expertDat V c).before 2 t d = expertBlk V c 2 t :=
  ((expertDat V c).before_in_eq_fetched 2 rfl (fun _ => rfl) (fun _ _ _ => rfl)
    (fun t => by rw [expert_after2]; unfold Dat.blockOf expertBlk; rw [expertDat_A]; try rfl) t d).trans
    (by unfold Dat.fetched Dat.blockOf expertBlk; rw [expertDat_A]; try rfl)
theorem expert_before3 (c : Dev nD) (t : Fin cfg1.N) (d) : (expertDat V c).before 3 t d = expertBlk V c 3 t :=
  ((expertDat V c).before_in_eq_fetched 3 rfl (fun _ => rfl) (fun _ _ _ => rfl)
    (fun t => by rw [expert_after3]; unfold Dat.blockOf expertBlk; rw [expertDat_A]; try rfl) t d).trans
    (by unfold Dat.fetched Dat.blockOf expertBlk; rw [expertDat_A]; try rfl)

/-- Past expert 0 the output's buffer holds what the point before left: it is written back at the last expert only. -/
theorem expert_before4 (c : Dev nD) (t : Fin cfg1.N) (h0 : ¬t.val % 8 = 0) (d) :
    (expertDat V c).before 4 t d = expertSum V c (t.val - 1) (Nat.lt_of_le_of_lt (Nat.sub_le _ _) t.isLt) := by
  have hN : t.val < 32 := lt_of_lt_of_eq t.isLt (show cfg1.N = 32 from N_1)
  rw [Dat.before_out_kept _ 4 rfl t (by omega) (Bool.eq_false_iff.mpr fun h => by have := (flush1_4 _).mp h; dsimp only at this; omega)
    (fun _ => rfl) (fun _ _ => rfl)]
  dsimp only [expertDat]

/-! ## The obligation at every point -/

/-- What the body is called with at point `t`, window by window, -/
def expertPre (c : Dev nD) (t : Fin cfg1.N) : sProp 𝕄 :=
  iprop((expertDat V c).Φ t.castSucc ∗ (expertDat V c).owesAt () t.castSucc
    ∗ (∃ d, owns (c : Thread nD τ) (st1_0 t) fullShare ((expertDat V c).before 0 t d))
    ∗ (∃ d, owns (c : Thread nD τ) (st1_1 t) fullShare ((expertDat V c).before 1 t d))
    ∗ (∃ d, owns (c : Thread nD τ) (st1_2 t) fullShare ((expertDat V c).before 2 t d))
    ∗ (∃ d, owns (c : Thread nD τ) (st1_3 t) fullShare ((expertDat V c).before 3 t d))
    ∗ (∃ d, owns (c : Thread nD τ) (st1_4 t) fullShare ((expertDat V c).before 4 t d)))

/-- and what it returns. -/
def expertPost (c : Dev nD) (t : Fin cfg1.N) : sProp 𝕄 :=
  iprop((expertDat V c).Φ t.succ ∗ (expertDat V c).owesAt () t.succ
    ∗ owns (c : Thread nD τ) (st1_0 t) fullShare ((expertDat V c).after 0 t)
    ∗ owns (c : Thread nD τ) (st1_1 t) fullShare ((expertDat V c).after 1 t)
    ∗ owns (c : Thread nD τ) (st1_2 t) fullShare ((expertDat V c).after 2 t)
    ∗ owns (c : Thread nD τ) (st1_3 t) fullShare ((expertDat V c).after 3 t)
    ∗ owns (c : Thread nD τ) (st1_4 t) fullShare ((expertDat V c).after 4 t))

set_option maxHeartbeats 1000000 in
/-- The body at any point meets its specification. -/
theorem expert_sound (c : Dev nD) (t : Fin cfg1.N) :
    expertPre V c t ⊢ wp frame (wpE (defs₀ (F := F)) Variants.none c none) Set.univ (bodyAt1 t) (fun _ => expertPost V c t) := by
  unfold expertPre expertPost bodyAt1
  simp only [expert_before0, expert_before1, expert_before2, expert_before3]
  rw [show (expertDat V c).Φ t.succ = (expertDat V c).Φ t.castSucc from rfl,
    show (expertDat V c).owesAt () t.succ = (expertDat V c).owesAt () t.castSucc from rfl,
    expert_after0, expert_after1, expert_after2, expert_after3, expert_after4]
  by_cases h0 : t.val % 8 = 0
  · rw [expertSum_first V c t h0]
    unfold expertStart
    iintro ⟨HΦ, Ho, ⟨%d0, H0⟩, ⟨%d1, H1⟩, ⟨%d2, H2⟩, ⟨%d3, H3⟩, ⟨%d4, H4⟩⟩
    iapply (experts_first c (grid1.coords t) _ _ _ _ _ _ _ _ _ _ (expertBlk V c 0 t) (expertBlk V c 1 t) (expertBlk V c 2 t) (expertBlk V c 3 t) ((firstExpert_iff t).mpr h0) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [expertSum_next V c t h0]
    simp only [expert_before4 V c t h0]
    unfold expertStep
    iintro ⟨HΦ, Ho, ⟨%d0, H0⟩, ⟨%d1, H1⟩, ⟨%d2, H2⟩, ⟨%d3, H3⟩, ⟨%d4, H4⟩⟩
    iapply (experts_next c (grid1.coords t) _ _ _ _ _ _ _ _ _ _ (expertBlk V c 0 t) (expertBlk V c 1 t) (expertBlk V c 2 t) (expertBlk V c 3 t) (fun h => h0 ((firstExpert_iff t).mp h)) _ Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body table's row at point `t`'s buffers is the body there. -/
theorem expert_row (t : Fin cfg1.N) : defs₀ (F := F) .tc cfg1.body (cfg1.bodyArgs t (cfg1.slots t)) = bodyAt1 t := by
  unfold defs₀; rw [Defs.onTc_tc]

/-- The library's obligation for the experts' call. -/
theorem expert_obligation (c : Dev nD) : BodyObligation (expertDat (F := F) V c) (defs₀ (F := F)) Variants.none () Set.univ := fun t => by
  rw [bigSep_W1, bigSep_W1, expert_row]
  exact triple_restated (expert_sound V c t) rfl .rfl fun _ => .rfl

end Cert.KernelIdeal.Run

end
-- ==== Proof.KernelIdeal.Launch.lean ====
/- The whole kernel program, proved to run: a reshape of the bias, the gating call, the experts' call, a reshape of the
   auxiliary loss. `runs` states what every final memory holds: the arguments as launched, and the two results at named
   contents (`afterAll`). Stated at any float type. -/
module

public import proofs.«01_k».proof.Proof.KernelIdeal.Experts

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations -/

/-- The program's arguments. -/
abbrev args : List (Ref sig .tc) := [main_arg0, main_arg1, main_arg2, main_arg3, main_arg4]

theorem reshapeBias_fresh : (hostOps0 : List (HloOp τ sig (Elt F))).Forall fun op => op.fresh = ∅ := by
  simp only [List.Forall]; repeat' constructor
theorem reshapeBias_writes :
    (hostOps0 : List (HloOp τ sig (Elt F))).Forall fun op => op.writes ⊆ (([main_v0] : List (Ref sig .tc)).map (Proc.devRef (τ := τ) .tc)).toFinset :=
  StableHlo.forall_writes_sub_of_map rfl
theorem reshapeAux_fresh : (hostOps2 : List (HloOp τ sig (Elt F))).Forall fun op => op.fresh = ∅ := by
  simp only [List.Forall]; repeat' constructor
theorem reshapeAux_writes :
    (hostOps2 : List (HloOp τ sig (Elt F))).Forall fun op => op.writes ⊆ (([main_v3] : List (Ref sig .tc)).map (Proc.devRef (τ := τ) .tc)).toFinset :=
  StableHlo.forall_writes_sub_of_map rfl

/-! ## What the buffers hold between the steps -/

/-- Core `c`'s buffers at launch, -/
abbrev atLaunch : Dev nD → Valuation τ sig (Elt F) := fun c b => (s₀ m ρ).mem ((c : Dev nD), b)
/-- with the bias reshaped (what the gating call finds), -/
abbrev withBias : Dev nD → Valuation τ sig (Elt F) := fun c => StableHlo.after hostOps0 (atLaunch m ρ c)
abbrev gateIn : (c : Dev nD) → (b : Ref sig .tc) → Buf (Elt F) ((c : Thread nD τ).loc b) := fun c b => withBias m ρ c b
/-- after the gating call (what the experts' call finds), -/
def afterGate (c : Dev nD) : Valuation τ sig (Elt F) :=
  Pipeline.withArrays spec0 c (withBias m ρ c) fun w => (gateDat (gateIn m ρ) c).arrAt w cfg0.N
abbrev expertsIn : (c : Dev nD) → (b : Ref sig .tc) → Buf (Elt F) ((c : Thread nD τ).loc b) := fun c b => afterGate m ρ c b
/-- after the experts' call, -/
def afterExperts (c : Dev nD) : Valuation τ sig (Elt F) :=
  Pipeline.withArrays spec1 c (afterGate m ρ c) fun w => (expertDat (expertsIn m ρ) c).arrAt w cfg1.N
abbrev auxIn : (c : Dev nD) → (b : Ref sig .tc) → Buf (Elt F) ((c : Thread nD τ).loc b) := fun c b => afterExperts m ρ c b
/-- and at the end, the auxiliary loss reshaped. -/
abbrev afterAll : Dev nD → Valuation τ sig (Elt F) := fun c => StableHlo.after hostOps2 (afterExperts m ρ c)

/-- The reshape of the bias writes `main_v0` alone. -/
theorem withBias_of (c : Dev nD) (r : Ref sig .tc) (h : r ∉ ([main_v0] : List (Ref sig .tc))) :
    withBias m ρ c (Proc.devRef .tc r) = atLaunch m ρ c (Proc.devRef .tc r) :=
  StableHlo.after_of_writes_sub hostOps0 _ reshapeBias_writes h

/-- The gating call leaves each of its arrays at what its write-backs make of it … -/
theorem afterGate_arr (c : Dev nD) (w : Fin cfg0.W) :
    afterGate m ρ c (Proc.devRef .tc (Pipeline.arrRef spec0 w)) = (gateDat (gateIn m ρ) c).arrAt w cfg0.N := by
  unfold afterGate; exact Pipeline.withArrays_arr spec0 launch0.win.arr_inj c _ _ w
/-- … and every other buffer alone. -/
theorem afterGate_of_ne (c : Dev nD) (b : Ref sig .tc) (hb : ∀ w, Pipeline.arrRef spec0 w ≠ b) :
    afterGate m ρ c (Proc.devRef .tc b) = withBias m ρ c (Proc.devRef .tc b) := by
  unfold afterGate; exact Pipeline.withArrays_of_ne spec0 c _ _ b hb
/-- It changes its output arrays alone. -/
theorem afterGate_of (c : Dev nD) (r : Ref sig .tc) (h : ∀ w : Fin cfg0.W, Pipeline.arrRef spec0 w = r → (cfg0.win w).isOut = false) :
    afterGate m ρ c (Proc.devRef .tc r) = withBias m ρ c (Proc.devRef .tc r) := by
  by_cases hw : ∃ w : Fin cfg0.W, Pipeline.arrRef spec0 w = r
  · obtain ⟨w, rfl⟩ := hw
    exact (afterGate_arr m ρ c w).trans (((gateDat (gateIn m ρ) c).arrAt_in w (h w rfl) _).trans (gateDat_A (gateIn m ρ) c w))
  · exact afterGate_of_ne m ρ c r fun w e => hw ⟨w, e⟩

/-- Likewise the experts' call. -/
theorem afterExperts_arr (c : Dev nD) (w : Fin cfg1.W) :
    afterExperts m ρ c (Proc.devRef .tc (Pipeline.arrRef spec1 w)) = (expertDat (expertsIn m ρ) c).arrAt w cfg1.N := by
  unfold afterExperts; exact Pipeline.withArrays_arr spec1 launch1.win.arr_inj c _ _ w
theorem afterExperts_of_ne (c : Dev nD) (b : Ref sig .tc) (hb : ∀ w, Pipeline.arrRef spec1 w ≠ b) :
    afterExperts m ρ c (Proc.devRef .tc b) = afterGate m ρ c (Proc.devRef .tc b) := by
  unfold afterExperts; exact Pipeline.withArrays_of_ne spec1 c _ _ b hb
theorem afterExperts_of (c : Dev nD) (r : Ref sig .tc) (h : ∀ w : Fin cfg1.W, Pipeline.arrRef spec1 w = r → (cfg1.win w).isOut = false) :
    afterExperts m ρ c (Proc.devRef .tc r) = afterGate m ρ c (Proc.devRef .tc r) := by
  by_cases hw : ∃ w : Fin cfg1.W, Pipeline.arrRef spec1 w = r
  · obtain ⟨w, rfl⟩ := hw
    exact (afterExperts_arr m ρ c w).trans (((expertDat (expertsIn m ρ) c).arrAt_in w (h w rfl) _).trans (expertDat_A (expertsIn m ρ) c w))
  · exact afterExperts_of_ne m ρ c r fun w e => hw ⟨w, e⟩

/-- The reshape of the auxiliary loss writes `main_v3` alone. -/
theorem afterAll_of (c : Dev nD) (r : Ref sig .tc) (h : r ∉ ([main_v3] : List (Ref sig .tc))) :
    afterAll m ρ c (Proc.devRef .tc r) = afterExperts m ρ c (Proc.devRef .tc r) :=
  StableHlo.after_of_writes_sub hostOps2 _ reshapeAux_writes h

theorem args_kept0 : ∀ a ∈ args, a ∉ ([main_v0] : List (Ref sig .tc)) := ListAll.forall_mem_of_all_decide (by decide +kernel)
theorem args_kept1 : ∀ a ∈ args, ∀ w : Fin cfg0.W, Pipeline.arrRef spec0 w = a → (cfg0.win w).isOut = false :=
  ListAll.forall_mem_of_all_decide (by decide +kernel)
theorem args_kept2 : ∀ a ∈ args, ∀ w : Fin cfg1.W, Pipeline.arrRef spec1 w = a → (cfg1.win w).isOut = false :=
  ListAll.forall_mem_of_all_decide (by decide +kernel)
theorem args_kept3 : ∀ a ∈ args, a ∉ ([main_v3] : List (Ref sig .tc)) := ListAll.forall_mem_of_all_decide (by decide +kernel)

/-- The gating call finds every argument as launched, -/
theorem gateIn_args (c : Dev nD) (a : Ref sig .tc) (ha : a ∈ args) : withBias m ρ c (Proc.devRef .tc a) = m ((c : Thread nD τ).loc a) :=
  withBias_of m ρ c a (args_kept0 a ha)
/-- the experts' call too, -/
theorem expertsIn_args (c : Dev nD) (a : Ref sig .tc) (ha : a ∈ args) : afterGate m ρ c (Proc.devRef .tc a) = m ((c : Thread nD τ).loc a) :=
  (afterGate_of m ρ c a (args_kept1 a ha)).trans (gateIn_args m ρ c a ha)
/-- and at the end they are still as launched. -/
theorem afterAll_args (c : Dev nD) (a : Ref sig .tc) (ha : a ∈ args) : afterAll m ρ c (Proc.devRef .tc a) = m ((c : Thread nD τ).loc a) :=
  (afterAll_of m ρ c a (args_kept3 a ha)).trans ((afterExperts_of m ρ c a (args_kept2 a ha)).trans (expertsIn_args m ρ c a ha))

/-! ## The two calls as steps of the run -/

/-- Neither call has a prefetched table. -/
abbrev noTables : (p : Fin 2) → (pcfgs (F := F) p).Adm := fun p => (cfgs p).toPCfg_adm
/-- Both calls' data, each over what it finds. -/
def callDat : (p : Fin 2) → (c : Dev nD) → Dat τ (Elt F) Unit ℕ (UR sig nD τ) ℕ (Pipeline.pin (pcfgs (F := F)) noTables p) c
  | ⟨0, _⟩ => fun c => gateDat (gateIn m ρ) c
  | ⟨1, _⟩ => fun c => expertDat (expertsIn m ρ) c
/-- No level is assigned: no core owes another anything. -/
abbrev noLevels : GSem nD τ sig → Finset Unit := fun _ => ∅
abbrev levelZero : GSem nD τ sig → Unit → ℕ := fun _ _ => 0
/-- What rides beside the buffers: the generator register, and the core owing nothing. -/
abbrev beside (c : Dev nD) : sProp 𝕄 := iprop((∃ r, prngReg c r) ∗ ∃ W, owes (c : Thread nD τ) (0 : CellTallies nD τ sig Unit) W)
/-- The state between steps: the unscoped buffers at `W`, the rest beside. -/
abbrev between (W : Dev nD → Valuation τ sig (Elt F)) (c : Dev nD) : sProp 𝕄 :=
  iprop(StableHlo.held (c : Thread nD τ) (Pipeline.ucRefs τ sig) (W c) ∗ beside c)
/-- A stretch of host operations as a step. -/
abbrev hostStep (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

/-- A buffer that is not scoped is among those held between steps. -/
theorem held_of_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The gating call as a step, from `withBias` to `afterGate`: its arrays are taken out of the unscoped buffers and put
    back at what it leaves; the scoped buffers go in at anything and come back at anything. -/
def gateStep : Pipeline.RegionSeg (pcfgs (F := F)) noTables (callDat m ρ) () defs₀ Variants.none noLevels levelZero 0 where
  win := launch0.win.to₀
  block_pos := launch0.block_pos
  stage_whole := launch0.stage_whole
  K := PEmpty
  osem k := k.elim
  ho := Pipeline.OwnSemFacts.none _
  hbody c := (gate_obligation (gateIn m ρ) c).loose
  hwaits := Pipeline.hwaits_of_owed_zero _ _ _ _ noLevels levelZero 0 fun _ _ => rfl
  pre := between (withBias m ρ)
  post := between (afterGate m ρ)
  X c := iprop(∃ r, prngReg c r)
  Y c := iprop(∃ r, prngReg c r)
  Z c := Pipeline.unscopedRest (Ix := Unit) (Name := ℕ) (U := UR sig nD τ) (Lvl := ℕ) spec0 c (gateIn m ρ c)
  hentry c := by
    rw [Pipeline.ownSems0_none]
    have hsplit := Pipeline.arrays_of_unscopedBufs (p := 0) (pcfgs (F := F)) noTables (callDat m ρ) launch0.win launch0.arr_whole c
      ((callDat m ρ 0 c).share_full fun _ => rfl) (gateIn m ρ c) (gateDat_A (gateIn m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (callDat m ρ 0 c).Φ 0 = Pipeline.ΦA spec0 c from rfl]; unfold Pipeline.ΦA
    iintro ⟨Hp, -, Hr⟩
    isplitl [Hr]; · iexact Hr
    iexact Hp
  hout c := by
    have hΦ : (callDat m ρ 0 c).Φ (Fin.last _) ⊢ Pipeline.ΦA spec0 c := gateInv_out (gateIn m ρ) c
    rw [Pipeline.ownSems0_none]
    refine hΦ.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (callDat m ρ) ((callDat m ρ 0 c).share_full fun _ => rfl)
      (gateIn m ρ c) (expertsIn m ρ c) ((callDat m ρ 0 c).arrAt · cfg0.N) (fun w => (afterGate_arr m ρ c w).symm)
      (fun b hb => afterGate_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The experts' call as a step, from `afterGate` to `afterExperts`, likewise. -/
def expertStepOfRun : Pipeline.RegionSeg (pcfgs (F := F)) noTables (callDat m ρ) () defs₀ Variants.none noLevels levelZero 1 where
  win := launch1.win.to₀
  block_pos := launch1.block_pos
  stage_whole := launch1.stage_whole
  K := PEmpty
  osem k := k.elim
  ho := Pipeline.OwnSemFacts.none _
  hbody c := (expert_obligation (expertsIn m ρ) c).loose
  hwaits := Pipeline.hwaits_of_owed_zero _ _ _ _ noLevels levelZero 1 fun _ _ => rfl
  pre := between (afterGate m ρ)
  post := between (afterExperts m ρ)
  X c := iprop(∃ r, prngReg c r)
  Y c := iprop(∃ r, prngReg c r)
  Z c := Pipeline.unscopedRest (Ix := Unit) (Name := ℕ) (U := UR sig nD τ) (Lvl := ℕ) spec1 c (expertsIn m ρ c)
  hentry c := by
    rw [Pipeline.ownSems0_none]
    have hsplit := Pipeline.arrays_of_unscopedBufs (p := 1) (pcfgs (F := F)) noTables (callDat m ρ) launch1.win launch1.arr_whole c
      ((callDat m ρ 1 c).share_full fun _ => rfl) (expertsIn m ρ c) (expertDat_A (expertsIn m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (callDat m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (callDat m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (callDat m ρ) ((callDat m ρ 1 c).share_full fun _ => rfl)
      (expertsIn m ρ c) (auxIn m ρ c) ((callDat m ρ 1 c).arrAt · cfg1.N) (fun w => (afterExperts_arr m ρ c w).symm)
      (fun b hb => afterExperts_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The program's four steps in order. -/
abbrev steps : List (Pipeline.Seg (pcfgs (F := F)) noTables (callDat m ρ) () defs₀ Variants.none noLevels levelZero) :=
  [ .host (hostStep hostOps0 hostOps0_sub reshapeBias_fresh (atLaunch m ρ)),
    .region (gateStep m ρ),
    .region (expertStepOfRun m ρ),
    .host (hostStep hostOps2 hostOps2_sub reshapeAux_fresh (afterExperts m ρ)) ]
/-- The program is the run of these steps. -/
theorem main_steps (c : Dev nD) : main (F := F) c = Pipeline.Seg.run (steps m ρ) := (main_chain c).trans (by chain_rfl)

/-- The TensorCore has no unscoped semaphore. -/
theorem sems_scoped : ∀ sm : SemLoc sig, sm.isScoped .tc = true := by decide

set_option backward.isDefEq.respectTransparency.types false in
/-- From any memory with zero counters, every weakly fair execution of the program terminates without a fault; in every
    final state the results hold `afterAll`'s contents, the arguments are as launched, and every counter is zero. -/
theorem runs : θ_run defs (onTc (τ := τ) (main (F := F))) ⟨m, fun _ => 0, ρ⟩ (fun r => (∀ c : Dev nD,
      (r.2.mem ((c.tc : Thread nD τ).loc main_v2) = afterAll m ρ c (Proc.devRef .tc main_v2)
        ∧ r.2.mem ((c.tc : Thread nD τ).loc main_v3) = afterAll m ρ c (Proc.devRef .tc main_v3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := F)) noTables (callDat m ρ) () cellOf_inj emb₁ defs₀ Variants.none noLevels levelZero m ρ main (steps m ρ)
    (fun c Q => by rw [main_steps m ρ c])
    (by simp only [steps, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := between (atLaunch m ρ))
    (Tₙ := fun c => iprop(StableHlo.held (c : Thread nD τ) (Pipeline.ucRefs τ sig) (afterAll m ρ c) ∗ ∃ r, prngReg c r))
    (hch := ⟨fun _ => .rfl, fun _ => .rfl, fun _ => .rfl, fun _ => .rfl, fun c => by
      dsimp only [Pipeline.Seg.post, hostStep, Pipeline.HostSeg.ofOps]
      iintro ⟨Hh, Hp, HO⟩
      isplitl [Hh Hp]
      · isplitl [Hh]; · iexact Hh
        iexact Hp
      iexact HO⟩)
    (hinit := by
      refine Pipeline.initEach noLevels levelZero fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = afterAll m ρ c b)
    (hfin := fun c s' => by
      iintro ⟨⟨Hh, -⟩, HSI⟩
      unfold StableHlo.held
      imodintro
      iapply (pointsTo_read_all (Pipeline.ucRefs τ sig) (fun b => (((c : Thread nD τ)).1, b)) (afterAll m ρ c) s')
      isplitl [Hh] <;> iassumption)
    (hQ := fun s h hz => ⟨(fun c =>
      ⟨⟨h c _ (held_of_unscoped main_v2 (by decide)), h c _ (held_of_unscoped main_v3 (by decide))⟩,
       (h c _ (held_of_unscoped main_arg0 (by decide))).trans (afterAll_args m ρ c main_arg0 (by decide)),
       (h c _ (held_of_unscoped main_arg1 (by decide))).trans (afterAll_args m ρ c main_arg1 (by decide)),
       (h c _ (held_of_unscoped main_arg2 (by decide))).trans (afterAll_args m ρ c main_arg2 (by decide)),
       (h c _ (held_of_unscoped main_arg3 (by decide))).trans (afterAll_args m ρ c main_arg3 (by decide)),
       (h c _ (held_of_unscoped main_arg4 (by decide))).trans (afterAll_args m ρ c main_arg4 (by decide))⟩), funext fun g => hz g (.inr (sems_scoped g.2))⟩)

/-- The frame: the arguments end as launched, every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (runs m ρ)

end Cert.KernelIdeal.Run

end
-- ==== Proof.Constants.lean ====
/- The float words that both programs print, read as real numbers where a proof needs their value: the temperature of the
   softmax, the start of a row maximum, and the counts eight, seven and two. -/
module

public import Idealize.ShloMosaic.PureOps.Ideal

@[expose] public section

noncomputable section

namespace Cert.Mixture

open Idealize.ShloMosaic

/-- The temperature's word. -/
abbrev tau : EReal := Ideal.ofBits .f32 0x3F4CCCCD#32
/-- The word a row maximum starts from. -/
abbrev lowest : EReal := Ideal.ofBits .f32 0xFF800000#32
/-- The number of rows. -/
abbrev rows : EReal := Ideal.ofBits .f32 0x45800000#32
/-- The number of experts, … -/
abbrev eight : EReal := Ideal.ofBits .f32 0x41000000#32
/-- … and one less. -/
abbrev seven : EReal := Ideal.ofBits .f32 0x40E00000#32
abbrev two : EReal := Ideal.ofBits .f32 0x40000000#32
/-- What keeps the denominator of the coefficient of variation off zero. -/
abbrev eps : EReal := Ideal.ofBits .f32 0x322BCC77#32
/-- The weight of the auxiliary loss. -/
abbrev lam : EReal := Ideal.ofBits .f32 0x3D4CCCCD#32

/-- The temperature is the real number nearest 0.8 with a 24-bit significand. -/
theorem tau_eq : tau = ((13421773 / 16777216 : ℝ) : EReal) := by
  simp [tau, Ideal.ofBits, Ideal.ieee, -EReal.coe_mul]; norm_num
/-- A row maximum starts from minus infinity. -/
theorem lowest_eq : lowest = ⊥ := by
  simp [lowest, Ideal.ofBits, Ideal.ieee]
/-- Infinity's word. -/
theorem infinity_eq : Ideal.ofBits .f32 0x7F800000#32 = ⊤ := by
  simp [Ideal.ofBits, Ideal.ieee]
theorem eight_eq : eight = ((8 : ℝ) : EReal) := by
  simp [eight, Ideal.ofBits, Ideal.ieee, -EReal.coe_mul]; norm_num
theorem seven_eq : seven = ((7 : ℝ) : EReal) := by
  simp [seven, Ideal.ofBits, Ideal.ieee, -EReal.coe_mul]; norm_num
theorem two_eq : two = ((2 : ℝ) : EReal) := by
  simp [two, Ideal.ofBits, Ideal.ieee, -EReal.coe_mul]; norm_num

/-- Eight less the word one counts is seven. -/
theorem eight_sub_one : eight - ((1 : ℝ) : EReal) = seven := by
  rw [eight_eq, seven_eq, ← EReal.coe_sub]; norm_num
theorem seven_pos : 0 < seven := by
  rw [seven_eq]; exact_mod_cast (by norm_num : (0 : ℝ) < 7)

end Cert.Mixture

end
-- ==== Proof.Mixture.lean ====
/- The mathematics of the dense mixture of experts on extended reals, apart from any program: the gate's softmax, the
   experts' weighted sum, the auxiliary loss, and the two equations that the kernel's way of computing rests on. -/
module

public import proofs.«01_k».proof.Proof.Constants

@[expose] public section

noncomputable section

namespace Cert.Mixture

open Idealize.ShloMosaic
open scoped BigOperators

/-! ## What is computed -/

/-- The gate's scaled logit of expert `e` for an input row. -/
def score (row : Fin 2048 → EReal) (W : Fin 2048 → Fin 8 → EReal) (bias : Fin 8 → EReal) (e : Fin 8) : EReal :=
  Ideal.div (∑ d, row d * W d e + bias e) tau

/-- The greatest of a row's scores. -/
def peak (s : Fin 8 → EReal) : EReal := Finset.univ.fold max lowest s

/-- The softmax of a row of scores, shifted by the greatest. -/
def softmax (s : Fin 8 → EReal) (e : Fin 8) : EReal :=
  Ideal.div (Ideal.exp (s e - peak s)) (∑ k, Ideal.exp (s k - peak s))

/-- What expert `e` computes, before its bias, for an input row at output column `h`. -/
def expert (row : Fin 2048 → EReal) (We : Fin 8 → Fin 2048 → Fin 2048 → EReal) (h : Fin 2048) (e : Fin 8) : EReal :=
  ∑ d, We e d h * row d

/-- The mixture for an input row at output column `h`: the experts' outputs weighted by the row's probabilities. -/
def mixture (p : Fin 8 → EReal) (row : Fin 2048 → EReal) (We : Fin 8 → Fin 2048 → Fin 2048 → EReal)
    (be : Fin 8 → Fin 2048 → EReal) (h : Fin 2048) : EReal :=
  ∑ e, (expert row We h e + be e h) * p e

/-- The mean probability of expert `e` over all rows. -/
def load (p : Fin 4096 → Fin 8 → EReal) (e : Fin 8) : EReal := Ideal.div (∑ b, p b e) rows

/-- The mean of eight numbers. -/
def mean8 (q : Fin 8 → EReal) : EReal := Ideal.div (∑ e, q e) eight

/-- Their coefficient of variation: the unbiased standard deviation over the mean. -/
def variation (q : Fin 8 → EReal) : EReal :=
  Ideal.div (Ideal.sqrt (Ideal.div (∑ e, (q e - mean8 q) * (q e - mean8 q)) seven)) (mean8 q + eps)

/-- The auxiliary loss of the loads: the switch loss and two coefficients of variation, weighted. -/
def auxLoss (q : Fin 8 → EReal) : EReal :=
  (eight * ∑ e, q e * q e + variation q + variation q) * lam

/-! ## The softmax of finite scores is a nonnegative real -/

/-- A finite sum of reals is taken in the reals. -/
theorem sum_real {n : ℕ} (f : Fin n → ℝ) : ∑ i, (f i : EReal) = ((∑ i, f i : ℝ) : EReal) :=
  (map_sum (⟨⟨fun r : ℝ => (r : EReal), EReal.coe_zero⟩, EReal.coe_add⟩ : ℝ →+ EReal) f Finset.univ).symm

/-- A finite sum of products of reals is a real. -/
theorem exists_real_dot {n : ℕ} (a b : Fin n → EReal) (ha : ∀ i, ∃ r : ℝ, a i = r) (hb : ∀ i, ∃ r : ℝ, b i = r) :
    ∃ r : ℝ, ∑ i, a i * b i = r := by
  choose f hf using ha
  choose g hg using hb
  refine ⟨∑ i, f i * g i, ?_⟩
  simp only [hf, hg, ← EReal.coe_mul]
  exact sum_real _

/-- From real inputs, weights and biases the scores are real. -/
theorem score_real (row : Fin 2048 → EReal) (W : Fin 2048 → Fin 8 → EReal) (bias : Fin 8 → EReal)
    (hrow : ∀ d, ∃ r : ℝ, row d = r) (hW : ∀ d e, ∃ r : ℝ, W d e = r) (hb : ∀ e, ∃ r : ℝ, bias e = r) (e : Fin 8) :
    ∃ r : ℝ, score row W bias e = r := by
  obtain ⟨u, hu⟩ := exists_real_dot row (fun d => W d e) hrow fun d => hW d e
  obtain ⟨v, hv⟩ := hb e
  refine ⟨(u + v) * (1 / (13421773 / 16777216)), ?_⟩
  unfold score
  rw [hu, hv, tau_eq, Ideal.div_coe (by norm_num)]
  push_cast
  rfl

/-- The greatest of real scores is real. -/
theorem peak_real (s : Fin 8 → EReal) (hs : ∀ e, ∃ r : ℝ, s e = r) : ∃ r : ℝ, peak s = r := by
  have hlt : peak s < ⊤ := by
    unfold peak
    rw [Finset.fold_max_lt, lowest_eq]
    refine ⟨bot_lt_top, fun e _ => ?_⟩
    obtain ⟨r, hr⟩ := hs e
    rw [hr]; exact EReal.coe_lt_top r
  have hgt : ⊥ < peak s := by
    unfold peak
    rw [Finset.lt_fold_max]
    obtain ⟨r, hr⟩ := hs 0
    exact Or.inr ⟨0, Finset.mem_univ _, by rw [hr]; exact EReal.bot_lt_coe r⟩
  exact ⟨(peak s).toReal, (EReal.coe_toReal hlt.ne hgt.ne').symm⟩

/-- The softmax of real scores is a nonnegative real. -/
theorem softmax_real (s : Fin 8 → EReal) (hs : ∀ e, ∃ r : ℝ, s e = r) (e : Fin 8) :
    ∃ r : ℝ, 0 ≤ r ∧ softmax s e = r := by
  obtain ⟨m, hm⟩ := peak_real s hs
  choose f hf using hs
  have hexp : ∀ k, Ideal.exp (s k - peak s) = ((Real.exp (f k - m) : ℝ) : EReal) := fun k => by
    rw [hf, hm, ← EReal.coe_sub, Ideal.exp_coe]
  have hsum : (∑ k, Ideal.exp (s k - peak s)) = ((∑ k, Real.exp (f k - m) : ℝ) : EReal) := by
    simp only [hexp]; exact sum_real _
  have hpos : 0 < ∑ k : Fin 8, Real.exp (f k - m) := Finset.sum_pos (fun k _ => Real.exp_pos _) ⟨0, Finset.mem_univ _⟩
  refine ⟨Real.exp (f e - m) * (1 / ∑ k, Real.exp (f k - m)), mul_nonneg (Real.exp_pos _).le (one_div_nonneg.mpr hpos.le), ?_⟩
  unfold softmax
  rw [hexp, hsum, Ideal.div_coe hpos.ne', ← EReal.coe_mul]

/-! ## The two equations -/

/-- The kernel weighs biases and products apart: with nonnegative real weights the mixture is the weighted biases plus the
    weighted products. -/
theorem mixture_split (p : Fin 8 → EReal) (hp : ∀ e, ∃ r : ℝ, 0 ≤ r ∧ p e = r) (row : Fin 2048 → EReal)
    (We : Fin 8 → Fin 2048 → Fin 2048 → EReal) (be : Fin 8 → Fin 2048 → EReal) (h : Fin 2048) :
    (∑ e, p e * be e h) + ∑ e, p e * ∑ d, row d * We e d h = mixture p row We be h := by
  unfold mixture
  rw [← Finset.sum_add_distrib]
  refine Finset.sum_congr rfl fun e _ => ?_
  obtain ⟨r, hr, he⟩ := hp e
  have h0 : 0 ≤ p e := by rw [he]; exact_mod_cast hr
  have h1 : p e ≠ ⊤ := by rw [he]; exact EReal.coe_ne_top r
  rw [EReal.right_distrib_of_nonneg_of_ne_top h0 h1, add_comm]
  unfold expert
  congr 1
  · rw [mul_comm]; congr 1; exact Finset.sum_congr rfl fun d _ => mul_comm _ _
  · exact mul_comm _ _

/-- Twice a number is its sum with itself, the infinities included. -/
theorem two_mul_eq (v : EReal) : two * v = v + v := by
  rw [two_eq]
  induction v with
  | bot => rw [EReal.coe_mul_bot_of_pos (by norm_num), EReal.bot_add]
  | top => rw [EReal.coe_mul_top_of_pos (by norm_num), EReal.top_add_top]
  | coe r => rw [← EReal.coe_mul, ← EReal.coe_add]; congr 1; ring

/-- The kernel doubles one coefficient of variation where the loss adds two. -/
theorem auxLoss_doubled (q : Fin 8 → EReal) :
    (eight * (∑ e, q e * q e) + two * variation q) * lam = auxLoss q := by
  unfold auxLoss
  rw [two_mul_eq, add_assoc]

end Cert.Mixture

end
-- ==== Proof.KernelIdeal.Blocks.lean ====
/- What one grid point of each call computes, read at an index at `Ideal`: the gate's softmax rows, its running column sums and
   its auxiliary loss; the experts' weighted biases and one expert's weighted product. -/
module

public import proofs.«01_k».proof.Proof.Gen.KernelIdeal.Skeleton
public import proofs.«01_k».proof.Proof.Mixture
public import Idealize.ShloMosaic.Lib.Pointwise

@[expose] public section

set_option maxRecDepth 16384

noncomputable section

namespace Cert.KernelIdeal.Meaning

open Cert.KernelIdeal Cert.KernelIdeal.Gen Cert.Mixture
open Idealize.ShloMosaic
open scoped BigOperators

/-! ## The gating call -/

/-- The narrowed copy of the input rows holds the same numbers. -/
theorem narrowed_apply (x : Vec Ideal S1024x2048 .f32) (i : S1024x2048.Idx) : k0_pay2 x i = x i := by
  pointwise [k0_pay2]

/-- A block's probabilities: the softmax of each row's scores. -/
theorem probs_apply (x : Vec Ideal S1024x2048 .f32) (W : Vec Ideal S2048x8 .f32) (bias : Vec Ideal S1x8 .f32) (b : Fin 1024) (e : Fin 8) :
    k0_pay3 x W bias (ix2 b e)
      = softmax (score (fun d => x (ix2 b d)) (fun d e => W (ix2 d e)) (fun e => bias (ix2 0 e))) e := by
  pointwise [k0_pay3]
  rfl

/-- The column sums start at zero … -/
theorem colSums_zero (e : Fin 8) : k0_pay4 (F := Ideal) (ix2 0 e) = 0 := by
  pointwise [k0_pay4]

/-- … and a block adds the sum of its rows' probabilities. -/
theorem colSums_apply (x : Vec Ideal S1024x2048 .f32) (W : Vec Ideal S2048x8 .f32) (bias : Vec Ideal S1x8 .f32) (a : Vec Ideal S1x8 .f32)
    (e : Fin 8) : k0_pay5 x W bias a (ix2 0 e) = a (ix2 0 e) + ∑ b : Fin 1024, k0_pay3 x W bias (ix2 b e) := by
  pointwise [k0_pay5]

/-- From the column sums over all rows, the auxiliary loss of the loads. -/
theorem auxLoss_apply (a : Vec Ideal S1x8 .f32) (i : S1x1.Idx) :
    k0_pay1 a i = auxLoss fun e => Ideal.div (a (ix2 0 e)) rows := by
  idx_vars i
  rw [← auxLoss_doubled]
  pointwise [k0_pay1]
  simp only [Finset.univ_unique, Finset.sum_singleton]
  rfl

/-! ## The experts' call -/

/-- The weighted biases. -/
theorem biases_apply (p : Vec Ideal S4096x8 .f32) (be : Vec Ideal S8x512 .f32) (b : Fin 4096) (h : Fin 512) :
    k1_pay1 p be (ix2 b h) = ∑ e : Fin 8, p (ix2 b e) * be (ix2 e h) := by
  pointwise [k1_pay1]

/-- A mask of ones at one expert sums to that expert's entry. -/
theorem sum_mask (f : Fin 8 → EReal) (e : Fin 8) :
    ∑ k : Fin 8, f k * FloatOps.sitofp (F := Ideal) .f32 (BitVec.setWidth 32 (IntOp.cmpi CmpIPredicate.eq (BitVec.ofNat 32 k.val) (BitVec.ofNat 32 e.val)))
      = f e := by
  rw [Finset.sum_eq_single e]
  · have h1 : FloatOps.sitofp (F := Ideal) .f32 (BitVec.setWidth 32 (IntOp.cmpi CmpIPredicate.eq (BitVec.ofNat 32 e.val) (BitVec.ofNat 32 e.val))) = (1 : EReal) := by
      have hb : BitVec.setWidth 32 (IntOp.cmpi CmpIPredicate.eq (BitVec.ofNat 32 e.val) (BitVec.ofNat 32 e.val)) = 1#32 := by
        revert e; decide
      rw [hb]
      show ((((1#32 : BitVec 32).toInt : ℤ) : ℝ) : EReal) = 1
      simp
    rw [h1, mul_one]
  · intro k _ hk
    have h0 : FloatOps.sitofp (F := Ideal) .f32 (BitVec.setWidth 32 (IntOp.cmpi CmpIPredicate.eq (BitVec.ofNat 32 k.val) (BitVec.ofNat 32 e.val))) = (0 : EReal) := by
      have hb : BitVec.setWidth 32 (IntOp.cmpi CmpIPredicate.eq (BitVec.ofNat 32 k.val) (BitVec.ofNat 32 e.val)) = 0#32 := by
        revert k e; decide
      rw [hb]
      show ((((0#32 : BitVec 32).toInt : ℤ) : ℝ) : EReal) = 0
      simp
    rw [h0, mul_zero]
  · exact fun h => absurd (Finset.mem_univ e) h

/-- One expert's step: its product with the rows, weighted by its column of probabilities, added to the block. -/
theorem product_apply (i : grid1.Coords) (e : Fin 8) (he : (i 1).val = e.val) (x : Vec Ideal S4096x2048 .bf16) (p : Vec Ideal S4096x8 .f32)
    (We : Vec Ideal S1x2048x512 .f32) (a : Vec Ideal S4096x512 .f32) (b : Fin 4096) (h : Fin 512) :
    k1_pay2 i p a x We (ix2 b h) = a (ix2 b h) + p (ix2 b e) * ∑ d : Fin 2048, x (ix2 b d) * We (ix3 0 d h) := by
  pointwise [k1_pay2]
  rw [he]
  exact congrArg (a (ix2 b h) + · * _) (sum_mask (fun k => p (ix2 b k)) e)

end Cert.KernelIdeal.Meaning

end
-- ==== Proof.KernelIdeal.GateArrays.lean ====
/- What the gating call leaves in its three arrays, at `Ideal`, whatever its arguments `V`: the input rows unchanged, every
   row's probabilities, and the auxiliary loss of the loads over all 4096 rows. -/
module

public import proofs.«01_k».proof.Proof.KernelIdeal.Gate
public import proofs.«01_k».proof.Proof.KernelIdeal.Blocks
public import Idealize.ShloMosaic.Lib.Pipeline.Value

@[expose] public section

set_option maxRecDepth 16384

noncomputable section

namespace Cert.KernelIdeal.Meaning

open Cert.KernelIdeal Cert.KernelIdeal.Gen Cert.KernelIdeal.Run Cert.Mixture
open Idealize.ShloMosaic Idealize.ShloMosaic.TcCoe
open Idealize.ShloMosaic.Pipeline (Dat)
open scoped BigOperators

variable (V : (c : Dev nD) → (b : Ref sig .tc) → Buf (Elt Ideal) ((c : Thread nD τ).loc b)) (c : Dev nD)

/-- The call has four points. -/
theorem gate_lt (t : Fin cfg0.N) : t.val < 4 := lt_of_lt_of_eq t.isLt (show cfg0.N = 4 from N_0)

/-- Row `b` of block `t`. -/
abbrev rowOf (t : Fin 4) (b : Fin 1024) : Fin 4096 := ⟨1024 * t.val + b.val, by have := t.isLt; have := b.isLt; omega⟩
abbrev pointOf (t : Fin cfg0.N) : Fin 4 := ⟨t.val, gate_lt t⟩

/-- The gate's arguments, as the call finds them. -/
abbrev xs (b : Fin 4096) (d : Fin 2048) : EReal := V c main_arg0 (ix2 b d)
abbrev gateW (d : Fin 2048) (e : Fin 8) : EReal := V c main_arg1 (ix2 d e)
abbrev gateBias (e : Fin 8) : EReal := V c main_v0 (ix2 0 e)
/-- Row `b`'s probabilities. -/
abbrev rowProbs (b : Fin 4096) : Fin 8 → EReal := softmax (score (xs V c b) (gateW V c) (gateBias V c))

/-! ## The input blocks -/

theorem index_rows : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index_weights : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index_bias : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index_narrowed : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem index_probs : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem index_aux : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Point `t` reads rows 1024·t to 1024·t + 1023, -/
theorem rowsBlk (t : Fin cfg0.N) (b : Fin 1024) (d : Fin 2048) : gateBlk V c 0 t (ix2 b d) = xs V c (rowOf (pointOf t) b) d := by
  obtain ⟨e0, e1⟩ := index_rows t
  show V c main_arg0 (((cfg0.win 0).blk t).view.emb (ix2 b d)) = V c main_arg0 (ix2 (rowOf (pointOf t) b) d)
  congr 1
  funext a; apply Fin.ext
  match a with
  | ⟨0, _⟩ => show win0_0.index t (0 : Fin 2) * 1024 + 1 * b.val = 1024 * t.val + b.val; omega
  | ⟨1, _⟩ => show win0_0.index t (1 : Fin 2) * 2048 + 1 * d.val = d.val; omega
/-- the whole of the gate's weights -/
theorem weightsBlk (t : Fin cfg0.N) (d : Fin 2048) (e : Fin 8) : gateBlk V c 1 t (ix2 d e) = gateW V c d e := by
  obtain ⟨e0, e1⟩ := index_weights t
  show V c main_arg1 (((cfg0.win 1).blk t).view.emb (ix2 d e)) = V c main_arg1 (ix2 d e)
  congr 1
  funext a; apply Fin.ext
  match a with
  | ⟨0, _⟩ => show win0_1.index t (0 : Fin 2) * 2048 + 1 * d.val = d.val; omega
  | ⟨1, _⟩ => show win0_1.index t (1 : Fin 2) * 8 + 1 * e.val = e.val; omega
/-- and of its bias. -/
theorem biasBlk (t : Fin cfg0.N) (e : Fin 8) : gateBlk V c 2 t (ix2 0 e) = gateBias V c e := by
  obtain ⟨e0, e1⟩ := index_bias t
  show V c main_v0 (((cfg0.win 2).blk t).view.emb (ix2 0 e)) = V c main_v0 (ix2 0 e)
  congr 1
  funext a; apply Fin.ext
  match a with
  | ⟨0, _⟩ => show win0_2.index t (0 : Fin 2) * 1 + 1 * 0 = 0; omega
  | ⟨1, _⟩ => show win0_2.index t (1 : Fin 2) * 8 + 1 * e.val = e.val; omega

/-- So its probabilities are those of its rows. -/
theorem probsBlk (t : Fin cfg0.N) (b : Fin 1024) (e : Fin 8) :
    k0_pay3 (gateBlk V c 0 t) (gateBlk V c 1 t) (gateBlk V c 2 t) (ix2 b e) = rowProbs V c (rowOf (pointOf t) b) e := by
  refine (probs_apply (gateBlk V c 0 t) (gateBlk V c 1 t) (gateBlk V c 2 t) b e).trans ?_
  simp only [rowsBlk, weightsBlk, biasBlk]

/-! ## The column sums -/

/-- After point `n` the scratch row holds the column sums of blocks 0 to `n`. -/
theorem psum_apply (e : Fin 8) : ∀ (n : ℕ) (h : n < cfg0.N),
    psum V c n h (ix2 0 e) = ∑ t : Fin (n + 1), ∑ b : Fin 1024, rowProbs V c (rowOf ⟨t.val, by have := t.isLt; have := gate_lt ⟨n, h⟩; simp only at this; omega⟩ b) e
  | 0, h => by
    refine (colSums_apply (gateBlk V c 0 ⟨0, h⟩) (gateBlk V c 1 ⟨0, h⟩) (gateBlk V c 2 ⟨0, h⟩) (k0_pay4 (F := Ideal)) e).trans ?_
    rw [colSums_zero, zero_add, Fin.sum_univ_one]
    exact Finset.sum_congr rfl fun b _ => probsBlk V c ⟨0, h⟩ b e
  | n + 1, h => by
    refine (colSums_apply (gateBlk V c 0 ⟨n + 1, h⟩) (gateBlk V c 1 ⟨n + 1, h⟩) (gateBlk V c 2 ⟨n + 1, h⟩) (psum V c n (Nat.lt_of_succ_lt h)) e).trans ?_
    refine Eq.trans ?_ (Fin.sum_univ_castSucc _).symm
    rw [psum_apply e n (Nat.lt_of_succ_lt h)]
    exact congrArg (HAdd.hAdd _) (Finset.sum_congr rfl fun b _ => probsBlk V c ⟨n + 1, h⟩ b e)

/-- A sum over 4096 rows, block by block. -/
theorem sum_rows (f : Fin 4096 → EReal) : ∑ t : Fin 4, ∑ b : Fin 1024, f (rowOf t b) = ∑ r, f r := by
  rw [← Fintype.sum_prod_type']
  refine Fintype.sum_equiv (finProdFinEquiv (m := 4) (n := 1024)) _ _ fun p => congrArg f (Fin.ext ?_)
  show 1024 * p.1.val + p.2.val = p.2.val + 1024 * p.1.val
  omega

/-- After the last point: the column sums over all rows. -/
theorem psum_last (e : Fin 8) (h : 3 < cfg0.N) : psum V c 3 h (ix2 0 e) = ∑ b, rowProbs V c b e :=
  (psum_apply V c e 3 h).trans (sum_rows fun b => rowProbs V c b e)

/-! ## Which points write which entries -/

/-- The loss is written back at the last point alone. -/
theorem flush_aux : ∀ t : Fin cfg0.N, (cfg0.win 5).flush t = true ↔ t.val = 3 :=
  (by decide +kernel : ∀ t : Fin grid0.N, win0_5.flush t = true ↔ t.val = 3)

/-- An entry lies in a point's block where each coordinate lies in the block's range. -/
theorem mem_narrowed (t : Fin cfg0.N) (i : S4096x2048.Idx) : i ∈ ((cfg0.win 3).blk t).view.set ↔ ∀ a : Fin 2, win0_3.index t a * S1024x2048.size a ≤ (i a).val ∧ (i a).val < win0_3.index t a * S1024x2048.size a + S1024x2048.size a := by
  show i ∈ ((View.whole main_v1_0).slice (win0_3.rect t)).set ↔ _
  rw [View.set_slice_whole, Rect.mem_set_unit]
  exact Iff.rfl
/-- The four blocks of rows fill the array of the narrowed rows, -/
theorem covered_narrowed (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  have hN : cfg0.N = 4 := N_0
  refine ⟨⟨(i 0).val / 1024, by omega⟩, (by decide +kernel : ∀ t : Fin grid0.N, win0_3.flush t = true) _, ?_⟩
  obtain ⟨e0, e1⟩ := index_narrowed ⟨(i 0).val / 1024, by omega⟩
  refine (mem_narrowed _ i).mpr ?_
  intro a
  match a with
  | ⟨0, _⟩ => show win0_3.index _ (0 : Fin 2) * 1024 ≤ (i 0).val ∧ (i 0).val < win0_3.index _ (0 : Fin 2) * 1024 + 1024; rw [e0]; dsimp only; omega
  | ⟨1, _⟩ => show win0_3.index _ (1 : Fin 2) * 2048 ≤ (i 1).val ∧ (i 1).val < win0_3.index _ (1 : Fin 2) * 2048 + 2048; rw [e1]; omega
theorem mem_probs (t : Fin cfg0.N) (i : S4096x8.Idx) : i ∈ ((cfg0.win 4).blk t).view.set ↔ ∀ a : Fin 2, win0_4.index t a * S1024x8.size a ≤ (i a).val ∧ (i a).val < win0_4.index t a * S1024x8.size a + S1024x8.size a := by
  show i ∈ ((View.whole main_v1_1).slice (win0_4.rect t)).set ↔ _
  rw [View.set_slice_whole, Rect.mem_set_unit]
  exact Iff.rfl
/-- and that of the probabilities; -/
theorem covered_probs (i : S4096x8.Idx) : ∃ t : Fin cfg0.N, (cfg0.win 4).flush t = true ∧ i ∈ ((cfg0.win 4).blk t).view.set := by
  have h0 : (i 0).val < 4096 := (i 0).isLt
  have h1 : (i 1).val < 8 := (i 1).isLt
  have hN : cfg0.N = 4 := N_0
  refine ⟨⟨(i 0).val / 1024, by omega⟩, (by decide +kernel : ∀ t : Fin grid0.N, win0_4.flush t = true) _, ?_⟩
  obtain ⟨e0, e1⟩ := index_probs ⟨(i 0).val / 1024, by omega⟩
  refine (mem_probs _ i).mpr ?_
  intro a
  match a with
  | ⟨0, _⟩ => show win0_4.index _ (0 : Fin 2) * 1024 ≤ (i 0).val ∧ (i 0).val < win0_4.index _ (0 : Fin 2) * 1024 + 1024; rw [e0]; dsimp only; omega
  | ⟨1, _⟩ => show win0_4.index _ (1 : Fin 2) * 8 ≤ (i 1).val ∧ (i 1).val < win0_4.index _ (1 : Fin 2) * 8 + 8; rw [e1]; omega
theorem mem_aux (t : Fin cfg0.N) (i : S1x1.Idx) : i ∈ ((cfg0.win 5).blk t).view.set ↔ ∀ a : Fin 2, win0_5.index t a * S1x1.size a ≤ (i a).val ∧ (i a).val < win0_5.index t a * S1x1.size a + S1x1.size a := by
  show i ∈ ((View.whole main_v1_2).slice (win0_5.rect t)).set ↔ _
  rw [View.set_slice_whole, Rect.mem_set_unit]
  exact Iff.rfl
/-- the last point alone fills the single entry of the auxiliary loss. -/
theorem covered_aux (i : S1x1.Idx) : ∃ t : Fin cfg0.N, (cfg0.win 5).flush t = true ∧ i ∈ ((cfg0.win 5).blk t).view.set := by
  have hN : cfg0.N = 4 := N_0
  refine ⟨⟨3, by omega⟩, (flush_aux _).mpr rfl, ?_⟩
  obtain ⟨e0, e1⟩ := index_aux ⟨3, by omega⟩
  have h0 : (i 0).val < 1 := (i 0).isLt
  have h1 : (i 1).val < 1 := (i 1).isLt
  refine (mem_aux _ i).mpr ?_
  intro a
  match a with
  | ⟨0, _⟩ => show win0_5.index _ (0 : Fin 2) * 1 ≤ (i 0).val ∧ (i 0).val < win0_5.index _ (0 : Fin 2) * 1 + 1; rw [e0]; omega
  | ⟨1, _⟩ => show win0_5.index _ (1 : Fin 2) * 1 ≤ (i 1).val ∧ (i 1).val < win0_5.index _ (1 : Fin 2) * 1 + 1; rw [e1]; omega

/-! ## The three arrays after the call -/

/-- The narrowed rows are the rows. -/
theorem narrowed_array : (gateDat V c).arrAt 3 cfg0.N = fun i => V c main_arg0 i := by
  refine (gateDat V c).arrAt_eq_of_cover 3 _ (fun t _ => ?_) fun i => ?_
  · show (cfg0.win 3).cut (grid0.coords t) ((gateDat V c).after 3 t) = _
    rw [gate_after3]
    obtain ⟨e0, e1⟩ := index_narrowed t
    funext y
    show k0_pay2 (gateBlk V c 0 t) ((cfg0.win 3).xinj (grid0.coords t) y) = V c main_arg0 (((cfg0.win 3).blk t).view.emb y)
    refine (narrowed_apply (gateBlk V c 0 t) _).trans ?_
    have hy : (cfg0.win 3).xinj (grid0.coords t) y = ix2 (⟨(y 0).val, (y 0).isLt⟩ : Fin 1024) (⟨(y 1).val, (y 1).isLt⟩ : Fin 2048) := by
      funext a; apply Fin.ext
      match a with
      | ⟨0, _⟩ => rfl
      | ⟨1, _⟩ => rfl
    rw [hy]
    refine (rowsBlk V c t _ _).trans ?_
    show V c main_arg0 _ = _
    congr 1
    funext a; apply Fin.ext
    match a with
    | ⟨0, _⟩ => show 1024 * t.val + (y 0).val = win0_3.index t (0 : Fin 2) * 1024 + 1 * (y 0).val; omega
    | ⟨1, _⟩ => show (y 1).val = win0_3.index t (1 : Fin 2) * 2048 + 1 * (y 1).val; omega
  · exact covered_narrowed i

/-- The probabilities of every row. -/
theorem probs_array : (gateDat V c).arrAt 4 cfg0.N = fun i => rowProbs V c (i 0) (i 1) := by
  refine (gateDat V c).arrAt_eq_of_cover 4 _ (fun t _ => ?_) fun i => ?_
  · show (cfg0.win 4).cut (grid0.coords t) ((gateDat V c).after 4 t) = _
    rw [gate_after4]
    obtain ⟨e0, e1⟩ := index_probs t
    funext y
    show k0_pay3 (gateBlk V c 0 t) (gateBlk V c 1 t) (gateBlk V c 2 t) ((cfg0.win 4).xinj (grid0.coords t) y)
      = rowProbs V c (((cfg0.win 4).blk t).view.emb y 0) (((cfg0.win 4).blk t).view.emb y 1)
    have hy : (cfg0.win 4).xinj (grid0.coords t) y = ix2 (⟨(y 0).val, (y 0).isLt⟩ : Fin 1024) (⟨(y 1).val, (y 1).isLt⟩ : Fin 8) := by
      funext a; apply Fin.ext
      match a with
      | ⟨0, _⟩ => rfl
      | ⟨1, _⟩ => rfl
    rw [hy]
    refine (probsBlk V c t _ _).trans ?_
    have hr : rowOf (pointOf t) (⟨(y 0).val, (y 0).isLt⟩ : Fin 1024) = ((cfg0.win 4).blk t).view.emb y 0 := by
      apply Fin.ext
      show 1024 * t.val + (y 0).val = win0_4.index t (0 : Fin 2) * 1024 + 1 * (y 0).val; omega
    have he : (⟨(y 1).val, (y 1).isLt⟩ : Fin 8) = ((cfg0.win 4).blk t).view.emb y 1 := by
      apply Fin.ext
      show (y 1).val = win0_4.index t (1 : Fin 2) * 8 + 1 * (y 1).val; omega
    rw [hr, he]
  · exact covered_probs i

/-- The auxiliary loss: written back at the last point alone, from the column sums over all rows. -/
theorem aux_array : (gateDat V c).arrAt 5 cfg0.N = fun _ => auxLoss (load (rowProbs V c)) := by
  refine (gateDat V c).arrAt_eq_of_cover 5 _ (fun t hf => ?_) fun i => ?_
  · show (cfg0.win 5).cut (grid0.coords t) ((gateDat V c).after 5 t) = _
    rw [gate_after5]
    obtain ⟨n, hn⟩ := t
    obtain rfl : n = 3 := (flush_aux ⟨n, hn⟩).mp hf
    funext y
    show k0_pay1 (psum V c 3 hn) ((cfg0.win 5).xinj (grid0.coords ⟨3, hn⟩) y) = auxLoss (load (rowProbs V c))
    refine (auxLoss_apply (psum V c 3 hn) _).trans ?_
    simp only [psum_last]
    rfl
  · exact covered_aux i

end Cert.KernelIdeal.Meaning

end
-- ==== Proof.KernelIdeal.ExpertArrays.lean ====
/- What the experts' call leaves in its output, at `Ideal`, whatever its arguments `V`: for each row the mixed biases plus,
   expert by expert, the probability times the expert's product. -/
module

public import proofs.«01_k».proof.Proof.KernelIdeal.Experts
public import proofs.«01_k».proof.Proof.KernelIdeal.Blocks
public import Idealize.ShloMosaic.Lib.Pipeline.Value

@[expose] public section

set_option maxRecDepth 16384

noncomputable section

namespace Cert.KernelIdeal.Meaning

open Cert.KernelIdeal Cert.KernelIdeal.Gen Cert.KernelIdeal.Run Cert.Mixture
open Idealize.ShloMosaic Idealize.ShloMosaic.TcCoe
open Idealize.ShloMosaic.Pipeline (Dat)
open scoped BigOperators

variable (V : (c : Dev nD) → (b : Ref sig .tc) → Buf (Elt Ideal) ((c : Thread nD τ).loc b)) (c : Dev nD)

/-- Expert `k` of column block `j`: the point that handles it. -/
def expertPoint (j : Fin 4) (k : ℕ) (hk : k < 8) : Fin cfg1.N :=
  ⟨8 * j.val + k, lt_of_lt_of_eq (show 8 * j.val + k < 32 by have := j.isLt; omega) N_1.symm⟩
/-- The point of its last expert. -/
abbrev lastPoint (j : Fin 4) : Fin cfg1.N := expertPoint j 7 (Nat.lt_succ_self 7)
/-- Column `h` of column block `j`. -/
abbrev colOf (j : Fin 4) (h : Fin 512) : Fin 2048 := ⟨512 * j.val + h.val, by have := j.isLt; have := h.isLt; omega⟩

/-- The call's arguments, as it finds them. -/
abbrev xsIn (b : Fin 4096) (d : Fin 2048) : EReal := V c main_v1_0 (ix2 b d)
abbrev probsIn (b : Fin 4096) (e : Fin 8) : EReal := V c main_v1_1 (ix2 b e)
abbrev expertsW (e : Fin 8) (d h : Fin 2048) : EReal := V c main_arg3 (ix3 e d h)
abbrev expertsBias (e : Fin 8) (h : Fin 2048) : EReal := V c main_arg4 (ix2 e h)

/-! ## The input blocks -/

theorem index_xs : ∀ t : Fin cfg1.N, win1_0.index t (0 : Fin 2) = 0 ∧ win1_0.index t (1 : Fin 2) = 0 :=
  (by decide +kernel : ∀ t : Fin grid1.N, win1_0.index t (0 : Fin 2) = 0 ∧ win1_0.index t (1 : Fin 2) = 0)
theorem index_ps : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem index_expert : ∀ t : Fin cfg1.N, win1_2.index t (0 : Fin 3) = t.val % 8 ∧ win1_2.index t (1 : Fin 3) = 0 ∧ win1_2.index t (2 : Fin 3) = t.val / 8 :=
  (by decide +kernel : ∀ t : Fin grid1.N, win1_2.index t (0 : Fin 3) = t.val % 8 ∧ win1_2.index t (1 : Fin 3) = 0 ∧ win1_2.index t (2 : Fin 3) = t.val / 8)
theorem index_biases : ∀ t : Fin cfg1.N, win1_3.index t (0 : Fin 2) = 0 ∧ win1_3.index t (1 : Fin 2) = t.val / 8 :=
  (by decide +kernel : ∀ t : Fin grid1.N, win1_3.index t (0 : Fin 2) = 0 ∧ win1_3.index t (1 : Fin 2) = t.val / 8)
theorem index_out : ∀ t : Fin cfg1.N, win1_4.index t (0 : Fin 2) = 0 ∧ win1_4.index t (1 : Fin 2) = t.val / 8 :=
  (by decide +kernel : ∀ t : Fin grid1.N, win1_4.index t (0 : Fin 2) = 0 ∧ win1_4.index t (1 : Fin 2) = t.val / 8)

/-- Every point reads all the rows -/
theorem xsBlk (t : Fin cfg1.N) (b : Fin 4096) (d : Fin 2048) : expertBlk V c 0 t (ix2 b d) = xsIn V c b d := by
  obtain ⟨e0, e1⟩ := index_xs t
  show V c main_v1_0 (((cfg1.win 0).blk t).view.emb (ix2 b d)) = V c main_v1_0 (ix2 b d)
  congr 1
  funext a; apply Fin.ext
  match a with
  | ⟨0, _⟩ => show win1_0.index t (0 : Fin 2) * 4096 + 1 * b.val = b.val; omega
  | ⟨1, _⟩ => show win1_0.index t (1 : Fin 2) * 2048 + 1 * d.val = d.val; omega
/-- and all the probabilities, -/
theorem psBlk (t : Fin cfg1.N) (b : Fin 4096) (e : Fin 8) : expertBlk V c 1 t (ix2 b e) = probsIn V c b e := by
  obtain ⟨e0, e1⟩ := index_ps t
  show V c main_v1_1 (((cfg1.win 1).blk t).view.emb (ix2 b e)) = V c main_v1_1 (ix2 b e)
  congr 1
  funext a; apply Fin.ext
  match a with
  | ⟨0, _⟩ => show win1_1.index t (0 : Fin 2) * 4096 + 1 * b.val = b.val; omega
  | ⟨1, _⟩ => show win1_1.index t (1 : Fin 2) * 8 + 1 * e.val = e.val; omega
/-- its column block of its expert's weights -/
theorem expertWBlk (j : Fin 4) (k : ℕ) (hk : k < 8) (d : Fin 2048) (h : Fin 512) :
    expertBlk V c 2 (expertPoint j k hk) (ix3 0 d h) = expertsW V c ⟨k, hk⟩ d (colOf j h) := by
  obtain ⟨e0, e1, e2⟩ := index_expert (expertPoint j k hk)
  have hv : (expertPoint j k hk).val = 8 * j.val + k := rfl
  show V c main_arg3 (((cfg1.win 2).blk (expertPoint j k hk)).view.emb (ix3 0 d h)) = V c main_arg3 (ix3 ⟨k, hk⟩ d (colOf j h))
  congr 1
  funext a; apply Fin.ext
  match a with
  | ⟨0, _⟩ => show win1_2.index (expertPoint j k hk) (0 : Fin 3) * 1 + 1 * 0 = k; omega
  | ⟨1, _⟩ => show win1_2.index (expertPoint j k hk) (1 : Fin 3) * 2048 + 1 * d.val = d.val; omega
  | ⟨2, _⟩ => show win1_2.index (expertPoint j k hk) (2 : Fin 3) * 512 + 1 * h.val = 512 * j.val + h.val; omega
/-- and its column block of every expert's bias. -/
theorem expertBiasBlk (j : Fin 4) (k : ℕ) (hk : k < 8) (e : Fin 8) (h : Fin 512) :
    expertBlk V c 3 (expertPoint j k hk) (ix2 e h) = expertsBias V c e (colOf j h) := by
  obtain ⟨e0, e1⟩ := index_biases (expertPoint j k hk)
  have hv : (expertPoint j k hk).val = 8 * j.val + k := rfl
  show V c main_arg4 (((cfg1.win 3).blk (expertPoint j k hk)).view.emb (ix2 e h)) = V c main_arg4 (ix2 e (colOf j h))
  congr 1
  funext a; apply Fin.ext
  match a with
  | ⟨0, _⟩ => show win1_3.index (expertPoint j k hk) (0 : Fin 2) * 8 + 1 * e.val = e.val; omega
  | ⟨1, _⟩ => show win1_3.index (expertPoint j k hk) (1 : Fin 2) * 512 + 1 * h.val = 512 * j.val + h.val; omega

/-- The expert a point takes its probability from is its own. -/
theorem expert_coord (j : Fin 4) (k : ℕ) (hk : k < 8) : (grid1.coords (expertPoint j k hk) 1).val = k := by
  have e : (grid1.coords (expertPoint j k hk) 1).val = (expertPoint j k hk).val / 1 % 8 :=
    Pipeline.Grid.coords_val (expertPoint j k hk) 1 (by decide) rfl
  have hv : (expertPoint j k hk).val = 8 * j.val + k := rfl
  omega

/-! ## The running sum -/

/-- Row `b`'s mixed bias in column `h`, -/
abbrev mixedBias (b : Fin 4096) (h : Fin 2048) : EReal := ∑ e, probsIn V c b e * expertsBias V c e h
/-- and what expert `e` adds to it. -/
abbrev share (b : Fin 4096) (h : Fin 2048) (e : Fin 8) : EReal := probsIn V c b e * ∑ d, xsIn V c b d * expertsW V c e d h

/-- One point adds its expert's share to what it starts from. -/
theorem product_at (j : Fin 4) (k : ℕ) (hk : k < 8) (a : Vec Ideal S4096x512 .f32) (b : Fin 4096) (h : Fin 512) :
    k1_pay2 (grid1.coords (expertPoint j k hk)) (expertBlk V c 1 (expertPoint j k hk)) a (expertBlk V c 0 (expertPoint j k hk))
        (expertBlk V c 2 (expertPoint j k hk)) (ix2 b h)
      = a (ix2 b h) + share V c b (colOf j h) ⟨k, hk⟩ := by
  refine (product_apply _ ⟨k, hk⟩ (expert_coord j k hk) (expertBlk V c 0 (expertPoint j k hk)) (expertBlk V c 1 (expertPoint j k hk))
    (expertBlk V c 2 (expertPoint j k hk)) a b h).trans ?_
  refine congrArg (HAdd.hAdd _) ?_
  refine congrArg₂ HMul.hMul (psBlk V c (expertPoint j k hk) b ⟨k, hk⟩) (Finset.sum_congr rfl fun d _ => ?_)
  exact congrArg₂ HMul.hMul (xsBlk V c (expertPoint j k hk) b d) (expertWBlk V c j k hk d h)

/-- After expert `k` of a column block: the mixed bias and the shares of experts 0 to `k`. -/
theorem expertSum_apply (j : Fin 4) (b : Fin 4096) (h : Fin 512) : ∀ (k : ℕ) (hk : k < 8),
    expertSum V c (expertPoint j k hk).val (expertPoint j k hk).isLt (ix2 b h)
      = mixedBias V c b (colOf j h) + ∑ e : Fin (k + 1), share V c b (colOf j h) ⟨e.val, lt_of_lt_of_le e.isLt hk⟩
  | 0, hk => by
    rw [expertSum_first V c (expertPoint j 0 hk) (show (8 * j.val + 0) % 8 = 0 by omega)]
    refine (product_at V c j 0 hk _ b h).trans ?_
    rw [Fin.sum_univ_one]
    refine congrArg (fun s => s + share V c b (colOf j h) ⟨0, hk⟩) ?_
    refine (biases_apply (expertBlk V c 1 (expertPoint j 0 hk)) (expertBlk V c 3 (expertPoint j 0 hk)) b h).trans ?_
    exact Finset.sum_congr rfl fun e _ => congrArg₂ HMul.hMul (psBlk V c (expertPoint j 0 hk) b e) (expertBiasBlk V c j 0 hk e h)
  | k + 1, hk => by
    have ih := expertSum_apply j b h k (Nat.lt_of_succ_lt hk)
    rw [expertSum_next V c (expertPoint j (k + 1) hk) (show ¬(8 * j.val + (k + 1)) % 8 = 0 by omega)]
    refine (product_at V c j (k + 1) hk _ b h).trans ?_
    refine Eq.trans ?_ (congrArg (HAdd.hAdd _) (Fin.sum_univ_castSucc _).symm)
    rw [← add_assoc]
    exact congrArg (fun s => s + share V c b (colOf j h) ⟨k + 1, hk⟩) ih

/-- After the last expert of a column block: the mixed bias and every expert's share. -/
theorem expertSum_last (j : Fin 4) (b : Fin 4096) (h : Fin 512) :
    expertSum V c (lastPoint j).val (lastPoint j).isLt (ix2 b h)
      = mixedBias V c b (colOf j h) + ∑ e, share V c b (colOf j h) e :=
  expertSum_apply V c j b h 7 (by omega)

/-! ## The array after the call -/

/-- A column block is written back after its last expert. -/
theorem flush_out : ∀ t : Fin cfg1.N, (cfg1.win 4).flush t = true ↔ t.val % 8 = 7 :=
  (by decide +kernel : ∀ t : Fin grid1.N, win1_4.flush t = true ↔ t.val % 8 = 7)

/-- An entry lies in a point's block where each coordinate lies in the block's range. -/
theorem mem_out (t : Fin cfg1.N) (i : S4096x2048.Idx) : i ∈ ((cfg1.win 4).blk t).view.set ↔
    ∀ a : Fin 2, win1_4.index t a * S4096x512.size a ≤ (i a).val ∧ (i a).val < win1_4.index t a * S4096x512.size a + S4096x512.size a := by
  show i ∈ ((View.whole main_v2).slice (win1_4.rect t)).set ↔ _
  rw [View.set_slice_whole, Rect.mem_set_unit]
  exact Iff.rfl
/-- The four column blocks fill the output. -/
theorem covered_out (i : S4096x2048.Idx) : ∃ t : Fin cfg1.N, (cfg1.win 4).flush t = true ∧ i ∈ ((cfg1.win 4).blk t).view.set := by
  have h0 : (i 0).val < 4096 := (i 0).isLt
  have h1 : (i 1).val < 2048 := (i 1).isLt
  have hv : (lastPoint ⟨(i 1).val / 512, by omega⟩).val = 8 * ((i 1).val / 512) + 7 := rfl
  refine ⟨lastPoint ⟨(i 1).val / 512, by omega⟩, (flush_out _).mpr (by omega), (mem_out _ i).mpr fun a => ?_⟩
  obtain ⟨e0, e1⟩ := index_out (lastPoint ⟨(i 1).val / 512, by omega⟩)
  match a with
  | ⟨0, _⟩ => show win1_4.index _ (0 : Fin 2) * 4096 ≤ (i 0).val ∧ (i 0).val < win1_4.index _ (0 : Fin 2) * 4096 + 4096; rw [e0]; omega
  | ⟨1, _⟩ => show win1_4.index _ (1 : Fin 2) * 512 ≤ (i 1).val ∧ (i 1).val < win1_4.index _ (1 : Fin 2) * 512 + 512; rw [e1]; omega

/-- The output: every row's mixed bias plus every expert's share. -/
theorem out_array : (expertDat V c).arrAt 4 cfg1.N = fun i => mixedBias V c (i 0) (i 1) + ∑ e, share V c (i 0) (i 1) e := by
  refine (expertDat V c).arrAt_eq_of_cover 4 _ (fun t hf => ?_) fun i => covered_out i
  show (cfg1.win 4).cut (grid1.coords t) ((expertDat V c).after 4 t) = _
  rw [expert_after4]
  have hN : t.val < 32 := lt_of_lt_of_eq t.isLt N_1
  have hf7 : t.val % 8 = 7 := (flush_out t).mp hf
  obtain ⟨j, ht⟩ : ∃ j : Fin 4, t.val = 8 * j.val + 7 := ⟨⟨t.val / 8, by omega⟩, by show t.val = 8 * (t.val / 8) + 7; omega⟩
  obtain rfl : t = lastPoint j := Fin.ext ht
  have hv : (lastPoint j).val = 8 * j.val + 7 := rfl
  obtain ⟨e0, e1⟩ := index_out (lastPoint j)
  funext y
  show expertSum V c (lastPoint j).val (lastPoint j).isLt ((cfg1.win 4).xinj (grid1.coords (lastPoint j)) y)
    = mixedBias V c (((cfg1.win 4).blk (lastPoint j)).view.emb y 0) (((cfg1.win 4).blk (lastPoint j)).view.emb y 1)
      + ∑ e, share V c (((cfg1.win 4).blk (lastPoint j)).view.emb y 0) (((cfg1.win 4).blk (lastPoint j)).view.emb y 1) e
  have hy : (cfg1.win 4).xinj (grid1.coords (lastPoint j)) y = ix2 (⟨(y 0).val, (y 0).isLt⟩ : Fin 4096) (⟨(y 1).val, (y 1).isLt⟩ : Fin 512) := by
    funext a; apply Fin.ext
    match a with
    | ⟨0, _⟩ => rfl
    | ⟨1, _⟩ => rfl
  have hb : (⟨(y 0).val, (y 0).isLt⟩ : Fin 4096) = ((cfg1.win 4).blk (lastPoint j)).view.emb y 0 := by
    apply Fin.ext
    show (y 0).val = win1_4.index (lastPoint j) (0 : Fin 2) * 4096 + 1 * (y 0).val; omega
  have hh : colOf j (⟨(y 1).val, (y 1).isLt⟩ : Fin 512) = ((cfg1.win 4).blk (lastPoint j)).view.emb y 1 := by
    apply Fin.ext
    show 512 * j.val + (y 1).val = win1_4.index (lastPoint j) (1 : Fin 2) * 512 + 1 * (y 1).val; omega
  rw [hy]
  refine (expertSum_last V c j _ _).trans ?_
  rw [hb, hh]

end Cert.KernelIdeal.Meaning

end
-- ==== Proof.KernelIdeal.Results.lean ====
/- The kernel program's two results, at `Ideal`, in its arguments: the mixture of every row (given that the gate's
   arguments are finite), and the auxiliary loss (with nothing given). -/
module

public import proofs.«01_k».proof.Proof.KernelIdeal.Launch
public import proofs.«01_k».proof.Proof.KernelIdeal.GateArrays
public import proofs.«01_k».proof.Proof.KernelIdeal.ExpertArrays

@[expose] public section

set_option maxRecDepth 16384

noncomputable section

namespace Cert.KernelIdeal.Meaning

open Cert.KernelIdeal Cert.KernelIdeal.Gen Cert.KernelIdeal.Run Cert.Mixture
open Idealize.ShloMosaic Idealize.ShloMosaic.TcCoe Idealize.ShloMosaic.Tactic
open scoped BigOperators

variable (m : (ℓ : Loc nD τ sig) → Buf (Elt Ideal) ℓ) (ρ : Dev nD → PrngReg) (c : Dev nD)

/-! ## The arguments, entry by entry -/

abbrev inX (b : Fin 4096) (d : Fin 2048) : EReal := m ((c : Thread nD τ).loc main_arg0) (ix2 b d)
abbrev inWg (d : Fin 2048) (e : Fin 8) : EReal := m ((c : Thread nD τ).loc main_arg1) (ix2 d e)
abbrev inBg (e : Fin 8) : EReal := m ((c : Thread nD τ).loc main_arg2) (ix1 e)
abbrev inWe (e : Fin 8) (d h : Fin 2048) : EReal := m ((c : Thread nD τ).loc main_arg3) (ix3 e d h)
abbrev inBe (e : Fin 8) (h : Fin 2048) : EReal := m ((c : Thread nD τ).loc main_arg4) (ix2 e h)
/-- Row `b`'s probabilities. -/
abbrev inProbs (b : Fin 4096) : Fin 8 → EReal := softmax (score (inX m c b) (inWg m c) (inBg m c))

/-! ## What the gating call finds and leaves -/

/-- It finds the bias as a row. -/
theorem gateBias_launch (e : Fin 8) : gateBias (gateIn m ρ) c e = inBg m c e := by
  show withBias m ρ c (Proc.devRef .tc main_v0) (ix2 0 e) = _
  have h : withBias m ρ c (Proc.devRef .tc main_v0) = shapeCast S1x8 (m ((c : Thread nD τ).loc main_arg2)) shapeCasts_S8_S1x8 := by
    unfold withBias hostOps0
    after_results_simp
    rfl
  rw [h]
  pointwise []
/-- Its rows and weights are the arguments. -/
theorem gateX_launch : xs (gateIn m ρ) c = inX m c :=
  funext fun b => funext fun d => congrFun (gateIn_args m ρ c main_arg0 (by decide)) (ix2 b d)
theorem gateW_launch : gateW (gateIn m ρ) c = inWg m c :=
  funext fun d => funext fun e => congrFun (gateIn_args m ρ c main_arg1 (by decide)) (ix2 d e)

/-- So it computes every row's probabilities from the arguments. -/
theorem rowProbs_launch : rowProbs (gateIn m ρ) c = inProbs m c := by
  funext b
  rw [rowProbs, gateX_launch, gateW_launch, show gateBias (gateIn m ρ) c = inBg m c from funext (gateBias_launch m ρ c)]

/-! ## What the experts' call finds -/

theorem xsIn_launch (b : Fin 4096) (d : Fin 2048) : xsIn (expertsIn m ρ) c b d = inX m c b d := by
  refine (congrFun (afterGate_arr m ρ c 3) (ix2 b d)).trans ?_
  rw [narrowed_array]
  exact congrFun (congrFun (gateX_launch m ρ c) b) d
theorem probsIn_launch (b : Fin 4096) (e : Fin 8) : probsIn (expertsIn m ρ) c b e = inProbs m c b e := by
  refine (congrFun (afterGate_arr m ρ c 4) (ix2 b e)).trans ?_
  rw [probs_array]
  exact congrFun (congrFun (rowProbs_launch m ρ c) b) e
theorem expertsW_launch (e : Fin 8) (d h : Fin 2048) : expertsW (expertsIn m ρ) c e d h = inWe m c e d h :=
  congrFun (expertsIn_args m ρ c main_arg3 (by decide)) (ix3 e d h)
theorem expertsBias_launch (e : Fin 8) (h : Fin 2048) : expertsBias (expertsIn m ρ) c e h = inBe m c e h :=
  congrFun (expertsIn_args m ρ c main_arg4 (by decide)) (ix2 e h)

/-! ## The two results -/

/-- The first result, whatever the arguments: each row's mixed bias plus each expert's product, weighted. -/
theorem out_split (b : Fin 4096) (h : Fin 2048) :
    afterAll m ρ c (Proc.devRef .tc main_v2) (ix2 b h)
      = (∑ e, inProbs m c b e * inBe m c e h) + ∑ e, inProbs m c b e * ∑ d, inX m c b d * inWe m c e d h := by
  refine (congrFun (afterAll_of m ρ c main_v2 (by decide)) (ix2 b h)).trans ?_
  refine (congrFun (afterExperts_arr m ρ c 4) (ix2 b h)).trans ?_
  rw [out_array]
  show mixedBias (expertsIn m ρ) c b h + ∑ e, share (expertsIn m ρ) c b h e = _
  refine congrArg₂ HAdd.hAdd (Finset.sum_congr rfl fun e _ => ?_) (Finset.sum_congr rfl fun e _ => ?_)
  · exact congrArg₂ HMul.hMul (probsIn_launch m ρ c b e) (expertsBias_launch m ρ c e h)
  · refine congrArg₂ HMul.hMul (probsIn_launch m ρ c b e) (Finset.sum_congr rfl fun d _ => ?_)
    exact congrArg₂ HMul.hMul (xsIn_launch m ρ c b d) (expertsW_launch m ρ c e d h)

/-- From finite arguments of the gate, the probabilities are nonnegative reals -/
theorem inProbs_real (hx : ∀ b d, ∃ r : ℝ, inX m c b d = r) (hW : ∀ d e, ∃ r : ℝ, inWg m c d e = r) (hb : ∀ e, ∃ r : ℝ, inBg m c e = r)
    (b : Fin 4096) (e : Fin 8) : ∃ r : ℝ, 0 ≤ r ∧ inProbs m c b e = r :=
  softmax_real _ (score_real _ _ _ (hx b) hW hb) e
/-- and the first result is the mixture. -/
theorem out_result (hx : ∀ b d, ∃ r : ℝ, inX m c b d = r) (hW : ∀ d e, ∃ r : ℝ, inWg m c d e = r) (hb : ∀ e, ∃ r : ℝ, inBg m c e = r)
    (b : Fin 4096) (h : Fin 2048) :
    afterAll m ρ c (Proc.devRef .tc main_v2) (ix2 b h) = mixture (inProbs m c b) (inX m c b) (inWe m c) (inBe m c) h :=
  (out_split m ρ c b h).trans (mixture_split _ (inProbs_real m c hx hW hb b) _ _ _ _)

/-- The second result, whatever the arguments: the auxiliary loss of the probabilities. -/
theorem aux_result (i : S_.Idx) : afterAll m ρ c (Proc.devRef .tc main_v3) i = auxLoss (load (inProbs m c)) := by
  have h : afterAll m ρ c (Proc.devRef .tc main_v3) = shapeCast S_ (afterExperts m ρ c (Proc.devRef .tc main_v1_2)) shapeCasts_S1x1_S_ := by
    unfold afterAll hostOps2
    after_results_simp
    rfl
  have h' : afterExperts m ρ c (Proc.devRef .tc main_v1_2) = fun _ => auxLoss (load (inProbs m c)) := by
    refine (afterExperts_of_ne m ρ c main_v1_2 (by decide)).trans ((afterGate_arr m ρ c 5).trans ?_)
    rw [aux_array, rowProbs_launch]
  rw [h, h']
  rfl

end Cert.KernelIdeal.Meaning

end
-- ==== Proof.Reference.lean ====
/- What the reference computes, read at an index: its first result is the mixture of the experts under the softmax of the
   gate, its second the auxiliary loss of the mean probabilities (Mixture.lean). -/
module

public import proofs.«01_k».proof.Proof.Gen.ReferenceIdeal.Read
public import proofs.«01_k».proof.Proof.Mixture
public import Idealize.ShloMosaic.Lib.Pointwise

@[expose] public section

set_option maxRecDepth 16384

noncomputable section

namespace Cert.ReferenceIdeal.Meaning

open Cert.ReferenceIdeal Cert.ReferenceIdeal.Gen Cert.ReferenceIdeal.Read Cert.Mixture
open Idealize.ShloMosaic
open scoped BigOperators

variable (x : (⟨S4096x2048, .f32⟩ : BufTy).Contents (Elt Ideal)) (Wg : (⟨S2048x8, .f32⟩ : BufTy).Contents (Elt Ideal))
  (bg : (⟨S8, .f32⟩ : BufTy).Contents (Elt Ideal)) (We : (⟨S8x2048x2048, .f32⟩ : BufTy).Contents (Elt Ideal))
  (be : (⟨S8x2048, .f32⟩ : BufTy).Contents (Elt Ideal))

/-- The probabilities of input row `b`. -/
abbrev probs (b : Fin 4096) : Fin 8 → EReal :=
  softmax (score (fun d => x (ix2 b d)) (fun d e => Wg (ix2 d e)) (fun e => bg (ix1 e)))

/-- The scaled logits. -/
theorem logits_apply (b : Fin 4096) (e : Fin 8) :
    val_main_v5 x Wg bg (ix2 b e) = score (fun d => x (ix2 b d)) (fun d e => Wg (ix2 d e)) (fun e => bg (ix1 e)) e := by
  pointwise [val_main_v5, val_main_v4, val_main_v3, val_main_v2, val_main_v1, val_main_v0, val_main_cst]
  rfl

/-- The row maximum: taking it with minus infinity once more changes nothing. -/
theorem rowMax_apply (b : Fin 4096) :
    val_main_v8 x Wg bg (ix1 b) = peak (score (fun d => x (ix2 b d)) (fun d e => Wg (ix2 d e)) (fun e => bg (ix1 e))) := by
  pointwise [val_main_v8, val_main_v7, val_main_v6, val_main_cst_0, val_main_cst_1]
  simp only [logits_apply]
  exact (congrArg (max · _) lowest_eq).trans (max_eq_right bot_le)

/-- The probabilities. -/
theorem probs_apply (b : Fin 4096) (e : Fin 8) : val_main_v16 x Wg bg (ix2 b e) = probs x Wg bg b e := by
  pointwise [val_main_v16, val_main_v15, val_main_v14, val_main_v13, val_main_v12, val_main_v11, val_main_v10, val_main_v9,
    val_main_cst_2]
  simp only [logits_apply, rowMax_apply]
  rfl

/-- The mean probability of an expert. -/
theorem load_apply (e : Fin 8) : val_main_v32 x Wg bg (ix1 e) = load (probs x Wg bg) e := by
  pointwise [val_main_v32, val_main_v31, val_main_v30, val_main_cst_8, val_main_cst_7]
  rw [show val_main_v29 x Wg bg = val_main_v16 x Wg bg from rfl]
  simp only [probs_apply]
  rfl

/-- The coefficient of variation: the count less one is seven, and positive, so the guard takes the variance. -/
theorem variation_apply (i : S_.Idx) : val_main_v40 x Wg bg i = variation (load (probs x Wg bg)) := by
  pointwise [val_main_v40, val_main_v39, val_main_v38, val_main_v37, val_main_v36, val_main_call0_v0, val_main_call0_call0_call0_v0,
    val_main_call0_call0_cst_4, val_main_call0_call0_v11, val_main_call0_call0_cst_3, val_main_call0_call0_v10, val_main_call0_call0_v9,
    val_main_call0_call0_cst_2, val_main_call0_call0_v8, val_main_call0_call0_cst_1, val_main_call0_call0_v7, val_main_call0_call0_v6,
    val_main_call0_call0_v5, val_main_call0_call0_v4, val_main_call0_call0_v3, val_main_call0_call0_v2, val_main_call0_call0_cst_0,
    val_main_call0_call0_v1, val_main_call0_call0_v0, val_main_call0_call0_cst, val_main_c, val_main_cst_11, val_main_cst_12,
    val_main_cst_13]
  simp only [load_apply]
  have h7 : Ideal.ofBits .f32 0x41000000#32 - FloatOps.sitofp (F := Ideal) FTy.f32 1#32 = seven := by
    have e1 : FloatOps.sitofp (F := Ideal) FTy.f32 1#32 = ((1 : ℝ) : EReal) := by
      show ((((1#32 : BitVec 32).toInt : ℤ) : ℝ) : EReal) = _
      simp
    rw [e1]; exact eight_sub_one
  rw [h7, if_pos seven_pos]
  rfl

/-- The second result: the auxiliary loss. -/
theorem aux_apply (i : S_.Idx) : val_main_v51 x Wg bg i = auxLoss (load (probs x Wg bg)) := by
  pointwise [val_main_v51, val_main_v50, val_main_v49, val_main_v48, val_main_v47, val_main_v46, val_main_cst_18, val_main_cst_19,
    val_main_cst_20]
  rw [show val_main_v45 x Wg bg = val_main_v40 x Wg bg from rfl, show val_main_v35 x Wg bg = val_main_v32 x Wg bg from rfl]
  simp only [load_apply, variation_apply]
  rfl

/-- The first result: the mixture. -/
theorem out_apply (b : Fin 4096) (h : Fin 2048) :
    val_main_v58 x Wg bg We be (ix2 b h)
      = mixture (probs x Wg bg b) (fun d => x (ix2 b d)) (fun e d k => We (ix3 e d k)) (fun e k => be (ix2 e k)) h := by
  pointwise [val_main_v58, val_main_v57, val_main_v56, val_main_v55, val_main_v54, val_main_v53, val_main_v52]
  simp only [probs_apply]
  rfl

end Cert.ReferenceIdeal.Meaning

end
-- ==== Proof.Finite.lean ====
/- What the precondition says: every entry of the inputs, of the gate's weights and of its bias is a real number. -/
module

public import proofs.«01_k».proof.Defs
public import proofs.«01_k».proof.Proof.Constants
public import Idealize.ShloMosaic.Lib.Pointwise

@[expose] public section

noncomputable section

namespace Cert.Pre_gate_finite.Meaning

open Cert.Pre_gate_finite Cert.Mixture
open Idealize.ShloMosaic

/-- The three broadcasts of the bound are well formed. -/
instance facts : Cert.Pre_gate_finite.Facts where
  bcast_S_S4096x2048 := by decide
  bcast_S_S2048x8 := by decide
  bcast_S_S8 := by decide

/-- A number whose absolute value compares below infinity is a real. -/
theorem real_of_bounded (a : EReal) (h : BitVec.ofBool (decide (max a (-a) < Ideal.ofBits .f32 0x7F800000#32)) = 1#1) : ∃ r : ℝ, a = r := by
  rw [infinity_eq] at h
  have hlt : max a (-a) < (⊤ : EReal) := by
    by_contra hn
    rw [decide_eq_false hn] at h
    exact absurd h (by decide)
  induction a using EReal.rec with
  | bot => simp at hlt
  | top => simp at hlt
  | coe r => exact ⟨r, rfl⟩

variable (x : FVec Ideal S4096x2048 .f32) (Wg : FVec Ideal S2048x8 .f32) (bg : FVec Ideal S8 .f32)
  (We : FVec Ideal S8x2048x2048 .f32) (be : FVec Ideal S8x2048 .f32)

/-- The first conjunct: every input is a real; -/
theorem inputs_real (h : (fn (F := Ideal) x Wg bg We be).1 = fun _ => 1#1) (i : S4096x2048.Idx) : ∃ r : ℝ, x i = r := by
  have e := congrFun h i
  revert e
  pointwise [fn]
  exact fun e => real_of_bounded (x i) e
/-- the second: every weight of the gate; -/
theorem weights_real (h : (fn (F := Ideal) x Wg bg We be).2.1 = fun _ => 1#1) (i : S2048x8.Idx) : ∃ r : ℝ, Wg i = r := by
  have e := congrFun h i
  revert e
  pointwise [fn]
  exact fun e => real_of_bounded (Wg i) e
/-- the third: every entry of its bias. -/
theorem bias_real (h : (fn (F := Ideal) x Wg bg We be).2.2 = fun _ => 1#1) (i : S8.Idx) : ∃ r : ℝ, bg i = r := by
  have e := congrFun h i
  revert e
  pointwise [fn]
  exact fun e => real_of_bounded (bg i) e

end Cert.Pre_gate_finite.Meaning

end
-- ==== Proof.lean ====
/- The claim, assembled: the frames of the three programs, the (empty) list of replaced operations, and the equation of
   the kernel's two results with the reference's, the second also without the precondition. -/
module

public import proofs.«01_k».proof.Defs
public import proofs.«01_k».proof.Proof.Kernel.Launch
public import proofs.«01_k».proof.Proof.KernelIdeal.Results
public import proofs.«01_k».proof.Proof.Reference
public import proofs.«01_k».proof.Proof.Finite
public import Idealize.ShloMosaic.Lib.Quiescent

@[expose] public section

noncomputable section

namespace Cert.Proof

open Idealize.ShloMosaic Idealize.SL.Sem Cert.Mixture

/-- The reference keeps its arguments and has no semaphores. -/
theorem reference_frame : Cert.quiescent_ReferenceIdeal := fun m ρ _ =>
  (θ_run Cert.ReferenceIdeal.defs _ _).mono
    (fun r h => ⟨fun c => (h c).2.2, sem_eq_zero_of_no_sems rfl r.2⟩)
    (Cert.ReferenceIdeal.Value.run (F := Ideal) m ρ)

/-- Where the gate's arguments are finite, the reference's first result is the kernel's … -/
theorem out_agrees (m : (ℓ : Loc Cert.KernelIdeal.nD Cert.KernelIdeal.τ Cert.KernelIdeal.sig) → Buf (Elt Ideal) ℓ)
    (ρ : Dev Cert.KernelIdeal.nD → PrngReg) (hm : Cert.Pre_KernelIdeal_gate_finite m) (c : Dev Cert.KernelIdeal.nD) :
    Cert.ReferenceIdeal.Read.val_main_v58 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Run.afterAll m ρ c (Proc.devRef .tc Cert.KernelIdeal.main_v2) := by
  obtain ⟨hx, hW, hb⟩ := hm c
  funext i
  obtain ⟨b, h, rfl⟩ : ∃ (b : Fin 4096) (h : Fin 2048), i = ix2 b h := ⟨i 0, i 1, by
    funext a
    match a with
    | ⟨0, _⟩ => rfl
    | ⟨1, _⟩ => rfl⟩
  refine (Cert.ReferenceIdeal.Meaning.out_apply _ _ _ _ _ b h).trans (Eq.symm ?_)
  exact Cert.KernelIdeal.Meaning.out_result m ρ c
    (fun b d => Cert.Pre_gate_finite.Meaning.inputs_real _ _ _ _ _ hx (ix2 b d))
    (fun d e => Cert.Pre_gate_finite.Meaning.weights_real _ _ _ _ _ hW (ix2 d e))
    (fun e => Cert.Pre_gate_finite.Meaning.bias_real _ _ _ _ _ hb (ix1 e)) b h

/-- … and the second is the kernel's everywhere. -/
theorem aux_agrees (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.ReferenceIdeal.Read.val_main_v51 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.Run.afterAll m ρ c (Proc.devRef .tc Cert.KernelIdeal.main_v3) :=
  funext fun i => (Cert.ReferenceIdeal.Meaning.aux_apply _ _ _ i).trans (Cert.KernelIdeal.Meaning.aux_result m ρ c i).symm

/-- Both programs end with the same two results. -/
theorem algebraic : Cert.algebraic_KernelIdeal_ReferenceIdeal_pre_gate_finite := by
  intro m g m' g' hm hargs
  refine ⟨fun c => Cert.KernelIdeal.Run.afterAll m g c (Proc.devRef .tc Cert.KernelIdeal.main_v2),
    fun c => Cert.KernelIdeal.Run.afterAll m g c (Proc.devRef .tc Cert.KernelIdeal.main_v3), ?_, ?_⟩
  · exact (θ_run Cert.KernelIdeal.defs _ _).mono (fun r h c => ⟨(h.1 c).1.1, (h.1 c).1.2, (h.1 c).2⟩)
      (Cert.KernelIdeal.Run.runs (F := Ideal) m g)
  · refine (θ_run Cert.ReferenceIdeal.defs _ _).mono (fun r h c => ?_) (Cert.ReferenceIdeal.Value.run (F := Ideal) m' g')
    obtain ⟨hout, haux, hkept⟩ := h c
    obtain ⟨h0, h1, h2, h3, h4⟩ := hargs c
    refine ⟨hout.trans ?_, haux.trans ?_, hkept⟩
    · refine (Cert.ReferenceIdeal.Read.val_main_v58_eq _ _ _ _ _).trans ?_
      rw [h0, h1, h2, h3, h4]
      exact out_agrees m g hm c
    · refine (Cert.ReferenceIdeal.Read.val_main_v51_eq m' c).trans ?_
      rw [h0, h1, h2]
      exact aux_agrees m g c

/-- The mask's one broadcast is well formed. -/
theorem mask_facts : Cert.On_balance_loss.Facts where
  bcast_S_S4096x2048 := by decide

/-- The second results agree whatever the arguments; of the first, where the mask selects no entry, nothing is said. -/
theorem algebraic_aux : Cert.algebraic_KernelIdeal_ReferenceIdeal_on_balance_loss (hOn_balance_loss := mask_facts) := by
  intro m g m' g' _ hargs
  refine ⟨fun c => Cert.KernelIdeal.Run.afterAll m g c (Proc.devRef .tc Cert.KernelIdeal.main_v2),
    fun c => Cert.KernelIdeal.Run.afterAll m g c (Proc.devRef .tc Cert.KernelIdeal.main_v3), ?_, ?_⟩
  · exact (θ_run Cert.KernelIdeal.defs _ _).mono
      (fun r h c => ⟨fun i _ => congrFun (h.1 c).1.1 i, fun i _ => congrFun (h.1 c).1.2 i, (h.1 c).2⟩)
      (Cert.KernelIdeal.Run.runs (F := Ideal) m g)
  · refine (θ_run Cert.ReferenceIdeal.defs _ _).mono (fun r h c => ?_) (Cert.ReferenceIdeal.Value.run (F := Ideal) m' g')
    obtain ⟨-, haux, hkept⟩ := h c
    obtain ⟨h0, h1, h2, -, -⟩ := hargs c
    refine ⟨fun i hi => absurd (show (0#1 : BitVec 1) = 1#1 from hi) (by decide), fun i _ => congrFun (haux.trans ?_) i, hkept⟩
    refine (Cert.ReferenceIdeal.Read.val_main_v51_eq m' c).trans ?_
    rw [h0, h1, h2]
    exact aux_agrees m g c

/-- Everything the statement claims. -/
theorem claim : Cert.Claim :=
  ⟨Cert.Kernel.Gen.facts, Cert.KernelIdeal.Gen.facts, Cert.ReferenceIdeal.Gen.facts, Cert.Pre_gate_finite.Meaning.facts, mask_facts,
    fun m ρ _ => Cert.Kernel.Run.quiescent m ρ,
    fun m ρ _ => Cert.KernelIdeal.Run.quiescent m ρ,
    fun m ρ _ => Cert.KernelIdeal.Run.quiescent m ρ,
    reference_frame,
    fun m ρ _ => reference_frame m ρ trivial,
    trivial,
    algebraic,
    algebraic_aux⟩

end Cert.Proof

end
